-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_negatable [hPre_finite_and_negatable : Cert.Pre_finite_and_negatable.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_negatable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_negatable [hPre_finite_and_negatable : Cert.Pre_finite_and_negatable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_negatable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_and_negatable [hKernelIdeal : Cert.KernelIdeal.Facts] [hPre_finite_and_negatable : Cert.Pre_finite_and_negatable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_negatable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_and_negatable [hReferenceIdeal : Cert.ReferenceIdeal.Facts] [hPre_finite_and_negatable : Cert.Pre_finite_and_negatable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_negatable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_and_negatable [hKernelIdeal : Cert.KernelIdeal.Facts] [hReferenceIdeal : Cert.ReferenceIdeal.Facts] [hPre_finite_and_negatable : Cert.Pre_finite_and_negatable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_negatable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_and_negatable : Cert.Pre_finite_and_negatable.Facts),
    quiescent_Kernel (hKernel := hKernel)
    ∧ quiescent_KernelIdeal (hKernelIdeal := hKernelIdeal)
    ∧ quiescent_KernelIdeal_pre_finite_and_negatable (hKernelIdeal := hKernelIdeal) (hPre_finite_and_negatable := hPre_finite_and_negatable)
    ∧ quiescent_ReferenceIdeal (hReferenceIdeal := hReferenceIdeal)
    ∧ quiescent_ReferenceIdeal_pre_finite_and_negatable (hReferenceIdeal := hReferenceIdeal) (hPre_finite_and_negatable := hPre_finite_and_negatable)
    ∧ preserves_Kernel_KernelIdeal
    ∧ algebraic_KernelIdeal_ReferenceIdeal_pre_finite_and_negatable (hKernelIdeal := hKernelIdeal) (hReferenceIdeal := hReferenceIdeal) (hPre_finite_and_negatable := hPre_finite_and_negatable)
-- ==== Pre_finite_and_negatable.lean ====
abbrev S128x64x256 : Shape := ⟨3, ![128, 64, 256]⟩
abbrev S128 : Shape := ⟨1, ![128]⟩
abbrev S384x256 : Shape := ⟨2, ![384, 256]⟩
abbrev S384x128 : Shape := ⟨2, ![384, 128]⟩
abbrev S384 : Shape := ⟨1, ![384]⟩
abbrev S128x128 : Shape := ⟨2, ![128, 128]⟩
abbrev S128x256 : Shape := ⟨2, ![128, 256]⟩
abbrev S100x128 : Shape := ⟨2, ![100, 128]⟩
abbrev S100 : Shape := ⟨1, ![100]⟩
abbrev S48x128 : Shape := ⟨2, ![48, 128]⟩
abbrev S48 : Shape := ⟨1, ![48]⟩
abbrev S_ : Shape := ⟨0, ![]⟩

class Facts : Prop where
  bcast_S_S128x64x256 : S_.BroadcastsInDim S128x64x256 (![] : Fin 0 → Fin S128x64x256.rank)
  reducesTo_S128x64x256_S_d0_1_2 : S128x64x256.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v13 main_v16
  main_v17

def fn {F : FTy → Type} [FloatOps F] (main_arg0 : FVec F S128x64x256 .f32) (main_arg1 : IVec S128 32) (main_arg2 : FVec F S384x256 .f32) (main_arg3 : FVec F S384x128 .f32) (main_arg4 : FVec F S384 .f32) (main_arg5 : FVec F S384 .f32) (main_arg6 : FVec F S128x128 .f32) (main_arg7 : FVec F S128x256 .f32) (main_arg8 : FVec F S128x256 .f32) (main_arg9 : FVec F S100x128 .f32) (main_arg10 : FVec F S100 .f32) (main_arg11 : FVec F S48x128 .f32) (main_arg12 : FVec F S48 .f32) : IVec S_ 1 :=
  let main_v0 : FVec F S128x64x256 .f32 := Host.absf main_arg0
  let main_cst : FVec F S_ .f32 := constant S_ .f32 0x7F800000#32
  let main_v1 : FVec F S128x64x256 .f32 := broadcastInDim S128x64x256 ![] bcast_S_S128x64x256 main_cst
  let main_v2 : IVec S128x64x256 1 := cmpf .olt main_v0 main_v1
  let main_c : IVec S_ 1 := constantI S_ 1 1#1
  let main_v3 : IVec S_ 1 := (fun x v => Host.reduce IntOp.andi x v reducesTo_S128x64x256_S_d0_1_2 h_S_) main_v2 main_c
  let main_v4 : FVec F S128x128 .f32 := Host.absf main_arg6
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x256 .f32 := Host.absf main_arg7
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_c_4 : IVec S_ 32 := constantI S_ 32 2147483648#32
  let main_v14 : IVec S128 32 := broadcastInDim S128 ![] bcast_S_S128 main_c_4
  let main_v15 : IVec S128 1 := cmpi .sgt main_arg1 main_v14
  let main_c_5 : IVec S_ 1 := constantI S_ 1 1#1
  fn_part1 (F := F) main_v13 main_v15 main_c_5
-- ==== Kernel.lean ====
abbrev S128x64x256 : Shape := ⟨3, ![128, 64, 256]⟩
abbrev S128 : Shape := ⟨1, ![128]⟩
abbrev S384x256 : Shape := ⟨2, ![384, 256]⟩
abbrev S384x128 : Shape := ⟨2, ![384, 128]⟩
abbrev S384 : Shape := ⟨1, ![384]⟩
abbrev S128x128 : Shape := ⟨2, ![128, 128]⟩
abbrev S128x256 : Shape := ⟨2, ![128, 256]⟩
abbrev S100x128 : Shape := ⟨2, ![100, 128]⟩
abbrev S100 : Shape := ⟨1, ![100]⟩
abbrev S48x128 : Shape := ⟨2, ![48, 128]⟩
abbrev S48 : Shape := ⟨1, ![48]⟩
abbrev S128x1 : Shape := ⟨2, ![128, 1]⟩
abbrev S1x128 : Shape := ⟨2, ![1, 128]⟩
abbrev S256x384 : Shape := ⟨2, ![256, 384]⟩
abbrev S128x384 : Shape := ⟨2, ![128, 384]⟩
abbrev S1x384 : Shape := ⟨2, ![1, 384]⟩
abbrev S256x128 : Shape := ⟨2, ![256, 128]⟩
abbrev S128x100 : Shape := ⟨2, ![128, 100]⟩
abbrev S1x100 : Shape := ⟨2, ![1, 100]⟩
abbrev S128x48 : Shape := ⟨2, ![128, 48]⟩
abbrev S1x48 : Shape := ⟨2, ![1, 48]⟩
abbrev S128x64 : Shape := ⟨2, ![128, 64]⟩
abbrev S128x64x384 : Shape := ⟨3, ![128, 64, 384]⟩
abbrev S128x64x128 : Shape := ⟨3, ![128, 64, 128]⟩
abbrev S8192x256 : Shape := ⟨2, ![8192, 256]⟩
abbrev S8192x384 : Shape := ⟨2, ![8192, 384]⟩
abbrev S8192x128 : Shape := ⟨2, ![8192, 128]⟩
abbrev S128x1x384 : Shape := ⟨3, ![128, 1, 384]⟩
abbrev S128x1x256 : Shape := ⟨3, ![128, 1, 256]⟩
abbrev S128x64x1 : Shape := ⟨3, ![128, 64, 1]⟩

abbrev nBuf : Space → Nat
  | .hbm => 28
  | .vmem => 19
  | .smem => 0
  | _ => 0

abbrev bufTy : (tb : Table) → Fin (tcTables nBuf tb) → BufTy
  | .hbm, ⟨0, _⟩ => ⟨S128x64x256, .f32⟩
  | .hbm, ⟨1, _⟩ => ⟨S128, .i32⟩
  | .hbm, ⟨2, _⟩ => ⟨S384x256, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128x128, .f32⟩
  | .hbm, ⟨7, _⟩ => ⟨S128x256, .f32⟩
  | .hbm, ⟨8, _⟩ => ⟨S128x256, .f32⟩
  | .hbm, ⟨9, _⟩ => ⟨S100x128, .f32⟩
  | .hbm, ⟨10, _⟩ => ⟨S100, .f32⟩
  | .hbm, ⟨11, _⟩ => ⟨S48x128, .f32⟩
  | .hbm, ⟨12, _⟩ => ⟨S48, .f32⟩
  | .hbm, ⟨13, _⟩ => ⟨S128x1, .i32⟩
  | .hbm, ⟨14, _⟩ => ⟨S1x128, .i32⟩
  | .hbm, ⟨15, _⟩ => ⟨S256x384, .f32⟩
  | .hbm, ⟨16, _⟩ => ⟨S128x384, .f32⟩
  | .hbm, ⟨17, _⟩ => ⟨S1x384, .f32⟩
  | .hbm, ⟨18, _⟩ => ⟨S1x384, .f32⟩
  | .hbm, ⟨19, _⟩ => ⟨S128x128, .f32⟩
  | .hbm, ⟨20, _⟩ => ⟨S256x128, .f32⟩
  | .hbm, ⟨21, _⟩ => ⟨S128x100, .f32⟩
  | .hbm, ⟨22, _⟩ => ⟨S1x100, .f32⟩
  | .hbm, ⟨23, _⟩ => ⟨S128x48, .f32⟩
  | .hbm, ⟨24, _⟩ => ⟨S1x48, .f32⟩
  | .hbm, ⟨25, _⟩ => ⟨S128x100, .f32⟩
  | .hbm, ⟨26, _⟩ => ⟨S128x48, .f32⟩
  | .hbm, ⟨27, _⟩ => ⟨S128x64, .f32⟩
  | .local _ .vmem, ⟨0, _⟩ => ⟨S128x64x256, .f32⟩
  | .local _ .vmem, ⟨1, _⟩ => ⟨S128x1, .i32⟩
  | .local _ .vmem, ⟨2, _⟩ => ⟨S1x128, .i32⟩
  | .local _ .vmem, ⟨3, _⟩ => ⟨S256x384, .f32⟩
  | .local _ .vmem, ⟨4, _⟩ => ⟨S128x384, .f32⟩
  | .local _ .vmem, ⟨5, _⟩ => ⟨S1x384, .f32⟩
  | .local _ .vmem, ⟨6, _⟩ => ⟨S1x384, .f32⟩
  | .local _ .vmem, ⟨7, _⟩ => ⟨S128x128, .f32⟩
  | .local _ .vmem, ⟨8, _⟩ => ⟨S128x256, .f32⟩
  | .local _ .vmem, ⟨9, _⟩ => ⟨S256x128, .f32⟩
  | .local _ .vmem, ⟨10, _⟩ => ⟨S128x100, .f32⟩
  | .local _ .vmem, ⟨11, _⟩ => ⟨S1x100, .f32⟩
  | .local _ .vmem, ⟨12, _⟩ => ⟨S128x48, .f32⟩
  | .local _ .vmem, ⟨13, _⟩ => ⟨S1x48, .f32⟩
  | .local _ .vmem, ⟨14, _⟩ => ⟨S128x100, .f32⟩
  | .local _ .vmem, ⟨15, _⟩ => ⟨S128x48, .f32⟩
  | .local _ .vmem, ⟨16, _⟩ => ⟨S128x64, .f32⟩
  | .local _ .vmem, ⟨17, _⟩ => ⟨S128x64x384, .f32⟩
  | .local _ .vmem, ⟨18, _⟩ => ⟨S128x64x128, .f32⟩
  | _, _ => ⟨S128x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v0_0 : Ref sig .tc := ⟨.hbm, 25, rfl⟩
abbrev main_v0_1 : Ref sig .tc := ⟨.hbm, 26, rfl⟩
abbrev main_v0_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v29 : BitVec 32 := Scalar.addi c0_i32 c64_i32
  let c1_i32 : BitVec 32 := 1#32
  ⟨c0_i32, v29, c1_i32⟩
def k0_off1 (k0_t1 : Fin k0_t1_loop.trips) : Fin 3 → Nat :=
  let c0_60 : Index := 0#32
  let c0_i32 : BitVec 32 := 0#32
  let c1_i32 : BitVec 32 := 1#32
  let arg19 : BitVec 32 := Scf.iv c0_i32 c1_i32 k0_t1
  let v103 : Index := Scalar.indexCast arg19
  let c0_61 : Index := 0#32
  ![0, v103.toNat, 0]
abbrev stage0_0 : Fin 1 → Memref sig .tc .vmem S128x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x100 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x100 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x48 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== ReferenceIdeal.lean ====
abbrev S128x64x256 : Shape := ⟨3, ![128, 64, 256]⟩
abbrev S128 : Shape := ⟨1, ![128]⟩
abbrev S384x256 : Shape := ⟨2, ![384, 256]⟩
abbrev S384x128 : Shape := ⟨2, ![384, 128]⟩
abbrev S384 : Shape := ⟨1, ![384]⟩
abbrev S128x128 : Shape := ⟨2, ![128, 128]⟩
abbrev S128x256 : Shape := ⟨2, ![128, 256]⟩
abbrev S100x128 : Shape := ⟨2, ![100, 128]⟩
abbrev S100 : Shape := ⟨1, ![100]⟩
abbrev S48x128 : Shape := ⟨2, ![48, 128]⟩
abbrev S48 : Shape := ⟨1, ![48]⟩
abbrev S_ : Shape := ⟨0, ![]⟩
abbrev S128x1 : Shape := ⟨2, ![128, 1]⟩
abbrev S64x128x256 : Shape := ⟨3, ![64, 128, 256]⟩
abbrev S64 : Shape := ⟨1, ![64]⟩
abbrev S1x128x256 : Shape := ⟨3, ![1, 128, 256]⟩
abbrev S1 : Shape := ⟨1, ![1]⟩
abbrev S256x384 : Shape := ⟨2, ![256, 384]⟩
abbrev S128x384 : Shape := ⟨2, ![128, 384]⟩
abbrev S1x384 : Shape := ⟨2, ![1, 384]⟩
abbrev S128x1x128 : Shape := ⟨3, ![128, 1, 128]⟩
abbrev S256x128 : Shape := ⟨2, ![256, 128]⟩
abbrev S128x64x128 : Shape := ⟨3, ![128, 64, 128]⟩
abbrev S128x1x64 : Shape := ⟨3, ![128, 1, 64]⟩
abbrev S1x64 : Shape := ⟨2, ![1, 64]⟩
abbrev S128x64 : Shape := ⟨2, ![128, 64]⟩
abbrev S128x1x1 : Shape := ⟨3, ![128, 1, 1]⟩
abbrev S128x100 : Shape := ⟨2, ![128, 100]⟩
abbrev S1x100 : Shape := ⟨2, ![1, 100]⟩
abbrev S128x48 : Shape := ⟨2, ![128, 48]⟩
abbrev S1x48 : Shape := ⟨2, ![1, 48]⟩

abbrev nBuf : Space → Nat
  | .hbm => 198
  | .vmem => 0
  | .smem => 0
  | _ => 0

abbrev hbmTy0_0 (i : Nat) : BufTy := match i % 128 with
  | 0 => ⟨S128x64x256, .f32⟩
  | 1 => ⟨S128, .i32⟩
  | 2 => ⟨S384x256, .f32⟩
  | 3 => ⟨S384x128, .f32⟩
  | 4 => ⟨S384, .f32⟩
  | 5 => ⟨S384, .f32⟩
  | 6 => ⟨S128x128, .f32⟩
  | 7 => ⟨S128x256, .f32⟩
  | 8 => ⟨S128x256, .f32⟩
  | 9 => ⟨S100x128, .f32⟩
  | 10 => ⟨S100, .f32⟩
  | 11 => ⟨S48x128, .f32⟩
  | 12 => ⟨S48, .f32⟩
  | 13 => ⟨S128, .i32⟩
  | 14 => ⟨S128, .i32⟩
  | 15 => ⟨S128, .i32⟩
  | 16 => ⟨S128, .i32⟩
  | 17 => ⟨S_, .i32⟩
  | 18 => ⟨S128, .i32⟩
  | 19 => ⟨S128, .i1⟩
  | 20 => ⟨S_, .i32⟩
  | 21 => ⟨S128, .i32⟩
  | 22 => ⟨S128, .i32⟩
  | 23 => ⟨S128, .i32⟩
  | 24 => ⟨S128x1, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i32⟩
  | 32 => ⟨S128, .i32⟩
  | 33 => ⟨S128x1, .i32⟩
  | 34 => ⟨S128x64x256, .f32⟩
  | 35 => ⟨S_, .f32⟩
  | 36 => ⟨S128x128, .f32⟩
  | 37 => ⟨S64x128x256, .f32⟩
  | 38 => ⟨S64, .i32⟩
  | 39 => ⟨S_, .i32⟩
  | 40 => ⟨S64x128x256, .f32⟩
  | 41 => ⟨S64, .i32⟩
  | 42 => ⟨S384x256, .f32⟩
  | 43 => ⟨S384, .f32⟩
  | 44 => ⟨S384x128, .f32⟩
  | 45 => ⟨S384, .f32⟩
  | 46 => ⟨S128, .i32⟩
  | 47 => ⟨S_, .i32⟩
  | 48 => ⟨S128x128, .f32⟩
  | 49 => ⟨S_, .i32⟩
  | 50 => ⟨S_, .i1⟩
  | 51 => ⟨S_, .i32⟩
  | 52 => ⟨S_, .i32⟩
  | 53 => ⟨S1x128x256, .f32⟩
  | 54 => ⟨S128x256, .f32⟩
  | 55 => ⟨S1, .i32⟩
  | 56 => ⟨S_, .i32⟩
  | 57 => ⟨S256x384, .f32⟩
  | 58 => ⟨S128x384, .f32⟩
  | 59 => ⟨S1x384, .f32⟩
  | 60 => ⟨S128x384, .f32⟩
  | 61 => ⟨S128x384, .f32⟩
  | 62 => ⟨S128x384, .f32⟩
  | 63 => ⟨S128x384, .f32⟩
  | 64 => ⟨S1x384, .f32⟩
  | 65 => ⟨S128x384, .f32⟩
  | 66 => ⟨S128x384, .f32⟩
  | 67 => ⟨S128x128, .f32⟩
  | 68 => ⟨S128x128, .f32⟩
  | 69 => ⟨S128x128, .f32⟩
  | 70 => ⟨S128x128, .f32⟩
  | 71 => ⟨S128x128, .f32⟩
  | 72 => ⟨S128x128, .f32⟩
  | 73 => ⟨S128x128, .f32⟩
  | 74 => ⟨S128x128, .f32⟩
  | 75 => ⟨S128x128, .f32⟩
  | 76 => ⟨S_, .f32⟩
  | 77 => ⟨S128x128, .f32⟩
  | 78 => ⟨S128x128, .f32⟩
  | 79 => ⟨S_, .f32⟩
  | 80 => ⟨S128x128, .f32⟩
  | 81 => ⟨S128x128, .f32⟩
  | 82 => ⟨S128x128, .f32⟩
  | 83 => ⟨S128x128, .f32⟩
  | 84 => ⟨S128x128, .f32⟩
  | 85 => ⟨S_, .f32⟩
  | 86 => ⟨S128x128, .f32⟩
  | 87 => ⟨S128x128, .f32⟩
  | 88 => ⟨S_, .f32⟩
  | 89 => ⟨S128x128, .f32⟩
  | 90 => ⟨S128x128, .f32⟩
  | 91 => ⟨S128x128, .f32⟩
  | 92 => ⟨S128x128, .f32⟩
  | 93 => ⟨S128x128, .f32⟩
  | 94 => ⟨S_, .f32⟩
  | 95 => ⟨S128x128, .f32⟩
  | 96 => ⟨S128x128, .f32⟩
  | 97 => ⟨S128x128, .f32⟩
  | 98 => ⟨S128x128, .f32⟩
  | 99 => ⟨S128x128, .f32⟩
  | 100 => ⟨S128, .i32⟩
  | 101 => ⟨S128, .i1⟩
  | 102 => ⟨S128x1, .i1⟩
  | 103 => ⟨S128x128, .i1⟩
  | 104 => ⟨S128x128, .f32⟩
  | 105 => ⟨S_, .i32⟩
  | 106 => ⟨S_, .i32⟩
  | 107 => ⟨S128, .i32⟩
  | 108 => ⟨S128, .i32⟩
  | 109 => ⟨S128, .i32⟩
  | 110 => ⟨S128, .i32⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S128x1, .i32⟩
  | 119 => ⟨S128, .i32⟩
  | 120 => ⟨S_, .i32⟩
  | 121 => ⟨S128, .i32⟩
  | 122 => ⟨S128, .i1⟩
  | 123 => ⟨S_, .i32⟩
  | 124 => ⟨S128, .i32⟩
  | 125 => ⟨S128, .i32⟩
  | 126 => ⟨S128, .i32⟩
  | 127 => ⟨S128x1, .i32⟩
  | _ => ⟨S128x64x256, .f32⟩

abbrev hbmTy0_1 (i : Nat) : BufTy := match i % 128 with
  | 0 => ⟨S128x64x256, .f32⟩
  | 1 => ⟨S128x128, .f32⟩
  | 2 => ⟨S128x128, .f32⟩
  | 3 => ⟨S128x1x128, .f32⟩
  | 4 => ⟨S256x128, .f32⟩
  | 5 => ⟨S128x64x128, .f32⟩
  | 6 => ⟨S256x128, .f32⟩
  | 7 => ⟨S128x64x128, .f32⟩
  | 8 => ⟨S_, .f32⟩
  | 9 => ⟨S128x64x128, .f32⟩
  | 10 => ⟨S128x64x128, .f32⟩
  | 11 => ⟨S128x1x64, .f32⟩
  | 12 => ⟨S64, .i32⟩
  | 13 => ⟨S1x64, .i32⟩
  | 14 => ⟨S128x1, .i32⟩
  | 15 => ⟨S128x64, .i32⟩
  | 16 => ⟨S128x64, .i32⟩
  | 17 => ⟨S128x64, .i1⟩
  | 18 => ⟨S128x64, .f32⟩
  | 19 => ⟨S128x1x64, .f32⟩
  | 20 => ⟨S_, .f32⟩
  | 21 => ⟨S_, .f32⟩
  | 22 => ⟨S128x1x64, .f32⟩
  | 23 => ⟨S128x1x64, .f32⟩
  | 24 => ⟨S_, .f32⟩
  | 25 => ⟨S128x1, .f32⟩
  | 26 => ⟨S_, .f32⟩
  | 27 => ⟨S128x1, .f32⟩
  | 28 => ⟨S128x1, .f32⟩
  | 29 => ⟨S128x1x1, .f32⟩
  | 30 => ⟨S128x1x64, .f32⟩
  | 31 => ⟨S128x1x64, .f32⟩
  | 32 => ⟨S128x1x64, .f32⟩
  | 33 => ⟨S_, .f32⟩
  | 34 => ⟨S128x1, .f32⟩
  | 35 => ⟨S128x1x1, .f32⟩
  | 36 => ⟨S128x1x64, .f32⟩
  | 37 => ⟨S128x1x64, .f32⟩
  | 38 => ⟨S128x1x64, .f32⟩
  | 39 => ⟨S_, .f32⟩
  | 40 => ⟨S128x1, .f32⟩
  | 41 => ⟨S128x1x1, .f32⟩
  | 42 => ⟨S128x1x64, .f32⟩
  | 43 => ⟨S128x1x64, .f32⟩
  | 44 => ⟨S128x1x128, .f32⟩
  | 45 => ⟨S128x1x128, .f32⟩
  | 46 => ⟨S128x128, .f32⟩
  | 47 => ⟨S128x64, .f32⟩
  | 48 => ⟨S_, .f32⟩
  | 49 => ⟨S128x128, .f32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S128x1, .i32⟩
  | 58 => ⟨S128x128, .f32⟩
  | 59 => ⟨S128x100, .f32⟩
  | 60 => ⟨S128x100, .f32⟩
  | 61 => ⟨S1x100, .f32⟩
  | 62 => ⟨S128x100, .f32⟩
  | 63 => ⟨S128x100, .f32⟩
  | 64 => ⟨S128x48, .f32⟩
  | 65 => ⟨S128x48, .f32⟩
  | 66 => ⟨S1x48, .f32⟩
  | 67 => ⟨S128x48, .f32⟩
  | 68 => ⟨S128x48, .f32⟩
  | 69 => ⟨S128x48, .f32⟩
  | _ => ⟨S128x64x256, .f32⟩

abbrev hbmTy (i : Nat) : BufTy := match i / 128 with
  | 0 => hbmTy0_0 i
  | 1 => hbmTy0_1 i
  | _ => ⟨S128x64x256, .f32⟩

abbrev bufTy : (tb : Table) → Fin (tcTables nBuf tb) → BufTy
  | .hbm, ⟨i, _⟩ => hbmTy i
  | _, _ => ⟨S128x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_v0 : Ref sig .tc := ⟨.hbm, 14, rfl⟩
abbrev main_call0_v1_0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev main_v19_3 : Ref sig .tc := ⟨.hbm, 43, rfl⟩
abbrev main_v19_4 : Ref sig .tc := ⟨.hbm, 44, rfl⟩
abbrev main_v19_5 : Ref sig .tc := ⟨.hbm, 45, rfl⟩
abbrev main_v19_6 : Ref sig .tc := ⟨.hbm, 46, rfl⟩
abbrev main_v19_7 : Ref sig .tc := ⟨.hbm, 47, rfl⟩
abbrev main_v19_8 : Ref sig .tc := ⟨.hbm, 48, rfl⟩
abbrev main_while0c_c_24 : Ref sig .tc := ⟨.hbm, 49, rfl⟩
abbrev main_while0c_v95 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_v0 : Ref sig .tc := ⟨.hbm, 53, rfl⟩
abbrev main_while0b_v95 : Ref sig .tc := ⟨.hbm, 54, rfl⟩
abbrev main_while0b_call2_v0 : Ref sig .tc := ⟨.hbm, 55, rfl⟩
abbrev main_while0b_v96 : Ref sig .tc := ⟨.hbm, 56, rfl⟩
abbrev main_while0b_v97 : Ref sig .tc := ⟨.hbm, 57, rfl⟩
abbrev main_while0b_v98 : Ref sig .tc := ⟨.hbm, 58, rfl⟩
abbrev main_while0b_v99 : Ref sig .tc := ⟨.hbm, 59, rfl⟩
abbrev main_while0b_v100 : Ref sig .tc := ⟨.hbm, 60, rfl⟩
abbrev main_while0b_v101 : Ref sig .tc := ⟨.hbm, 61, rfl⟩
abbrev main_while0b_v102 : Ref sig .tc := ⟨.hbm, 62, rfl⟩
abbrev main_while0b_v103 : Ref sig .tc := ⟨.hbm, 63, rfl⟩
abbrev main_while0b_v104 : Ref sig .tc := ⟨.hbm, 64, rfl⟩
abbrev main_while0b_v105 : Ref sig .tc := ⟨.hbm, 65, rfl⟩
abbrev main_while0b_v106 : Ref sig .tc := ⟨.hbm, 66, rfl⟩
abbrev main_while0b_v107 : Ref sig .tc := ⟨.hbm, 67, rfl⟩
abbrev main_while0b_v108 : Ref sig .tc := ⟨.hbm, 68, rfl⟩
abbrev main_while0b_v109 : Ref sig .tc := ⟨.hbm, 69, rfl⟩
abbrev main_while0b_v110 : Ref sig .tc := ⟨.hbm, 70, rfl⟩
abbrev main_while0b_v111 : Ref sig .tc := ⟨.hbm, 71, rfl⟩
abbrev main_while0b_v112 : Ref sig .tc := ⟨.hbm, 72, rfl⟩
abbrev main_while0b_v113 : Ref sig .tc := ⟨.hbm, 73, rfl⟩
abbrev main_while0b_v114 : Ref sig .tc := ⟨.hbm, 74, rfl⟩
abbrev main_while0b_v115 : Ref sig .tc := ⟨.hbm, 75, rfl⟩
abbrev main_while0b_cst_24 : Ref sig .tc := ⟨.hbm, 76, rfl⟩
abbrev main_while0b_v116 : Ref sig .tc := ⟨.hbm, 77, rfl⟩
abbrev main_while0b_v117 : Ref sig .tc := ⟨.hbm, 78, rfl⟩
abbrev main_while0b_cst_25 : Ref sig .tc := ⟨.hbm, 79, rfl⟩
abbrev main_while0b_v118 : Ref sig .tc := ⟨.hbm, 80, rfl⟩
abbrev main_while0b_v119 : Ref sig .tc := ⟨.hbm, 81, rfl⟩
abbrev main_while0b_v120 : Ref sig .tc := ⟨.hbm, 82, rfl⟩
abbrev main_while0b_v121 : Ref sig .tc := ⟨.hbm, 83, rfl⟩
abbrev main_while0b_v122 : Ref sig .tc := ⟨.hbm, 84, rfl⟩
abbrev main_while0b_cst_26 : Ref sig .tc := ⟨.hbm, 85, rfl⟩
abbrev main_while0b_v123 : Ref sig .tc := ⟨.hbm, 86, rfl⟩
abbrev main_while0b_v124 : Ref sig .tc := ⟨.hbm, 87, rfl⟩
abbrev main_while0b_cst_27 : Ref sig .tc := ⟨.hbm, 88, rfl⟩
abbrev main_while0b_v125 : Ref sig .tc := ⟨.hbm, 89, rfl⟩
abbrev main_while0b_v126 : Ref sig .tc := ⟨.hbm, 90, rfl⟩
abbrev main_while0b_v127 : Ref sig .tc := ⟨.hbm, 91, rfl⟩
abbrev main_while0b_v128 : Ref sig .tc := ⟨.hbm, 92, rfl⟩
abbrev main_while0b_v129 : Ref sig .tc := ⟨.hbm, 93, rfl⟩
abbrev main_while0b_cst_28 : Ref sig .tc := ⟨.hbm, 94, rfl⟩
abbrev main_while0b_v130 : Ref sig .tc := ⟨.hbm, 95, rfl⟩
abbrev main_while0b_v131 : Ref sig .tc := ⟨.hbm, 96, rfl⟩
abbrev main_while0b_v132 : Ref sig .tc := ⟨.hbm, 97, rfl⟩
abbrev main_while0b_v133 : Ref sig .tc := ⟨.hbm, 98, rfl⟩
abbrev main_while0b_v134 : Ref sig .tc := ⟨.hbm, 99, rfl⟩
abbrev main_while0b_v135 : Ref sig .tc := ⟨.hbm, 100, rfl⟩
abbrev main_while0b_v136 : Ref sig .tc := ⟨.hbm, 101, rfl⟩
abbrev main_while0b_v137 : Ref sig .tc := ⟨.hbm, 102, rfl⟩
abbrev main_while0b_call3_v0 : Ref sig .tc := ⟨.hbm, 103, rfl⟩
abbrev main_while0b_v138 : Ref sig .tc := ⟨.hbm, 104, rfl⟩
abbrev main_while0b_c_29 : Ref sig .tc := ⟨.hbm, 105, rfl⟩
abbrev main_while0b_v139 : Ref sig .tc := ⟨.hbm, 106, rfl⟩
abbrev main_v20 : Ref sig .tc := ⟨.hbm, 107, rfl⟩
abbrev main_call4_v0 : Ref sig .tc := ⟨.hbm, 108, rfl⟩
abbrev main_call4_v1_0 : Ref sig .tc := ⟨.hbm, 109, rfl⟩
abbrev main_v21 : Ref sig .tc := ⟨.hbm, 110, rfl⟩
abbrev main_c_4 : Ref sig .tc := ⟨.hbm, 111, rfl⟩
abbrev main_v22 : Ref sig .tc := ⟨.hbm, 112, rfl⟩
abbrev main_v23 : Ref sig .tc := ⟨.hbm, 113, rfl⟩
abbrev main_c_5 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_c_6 : Ref sig .tc := ⟨.hbm, 120, rfl⟩
abbrev main_v29 : Ref sig .tc := ⟨.hbm, 121, rfl⟩
abbrev main_v30 : Ref sig .tc := ⟨.hbm, 122, rfl⟩
abbrev main_c_7 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_call5_cst : Ref sig .tc := ⟨.hbm, 136, rfl⟩
abbrev main_call5_v0 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_cst_8 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_cst_9 : Ref sig .tc := ⟨.hbm, 152, rfl⟩
abbrev main_v56 : Ref sig .tc := ⟨.hbm, 153, rfl⟩
abbrev main_cst_10 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_cst_11 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_cst_12 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_cst_13 : Ref sig .tc := ⟨.hbm, 176, rfl⟩
abbrev main_v76 : Ref sig .tc := ⟨.hbm, 177, rfl⟩
abbrev main_c_14 : Ref sig .tc := ⟨.hbm, 178, rfl⟩
abbrev main_v77 : Ref sig .tc := ⟨.hbm, 179, rfl⟩
abbrev main_v78 : Ref sig .tc := ⟨.hbm, 180, rfl⟩
abbrev main_c_15 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩

abbrev nD : Nat := 1
abbrev τ : Topo := Topo.v7x

variable {F : FTy → Type} [FloatOps F]

abbrev main_while0_count : Scf.Loop 32 := ⟨0#32, 64#32, 1#32⟩
-- ==== Proof.KernelBlocks.lean ====
module

public import proofs.«01_k».proof.Proof.Gen.KernelIdeal.Value
public import Idealize.ShloMosaic.Lib.Pointwise
public import Idealize.ShloMosaic.Lib.Pipeline.ValueKit
public import Idealize.ShloMosaic.Lib.Claim

/-! The kernel's blocks are its whole operands: each reads an argument, transposed or reshaped. -/

@[expose] public section

set_option maxRecDepth 16384

noncomputable section

namespace Cert.KernelIdeal.Gen

open Idealize.ShloMosaic Idealize.ShloMosaic.TcCoe Idealize.SL.Sem
open Cert.KernelIdeal

variable (m : (ℓ : Loc nD τ sig) → Buf (Elt Ideal) ℓ) (c : Dev nD)

/-- Every window stays at the origin. -/
theorem idx : win0_0.index t0_0 = ![0, 0, 0] ∧ win0_1.index t0_0 = ![0, 0] ∧ win0_2.index t0_0 = ![0, 0] ∧ win0_3.index t0_0 = ![0, 0]
    ∧ win0_4.index t0_0 = ![0, 0] ∧ win0_5.index t0_0 = ![0, 0] ∧ win0_6.index t0_0 = ![0, 0] ∧ win0_7.index t0_0 = ![0, 0]
    ∧ win0_8.index t0_0 = ![0, 0] ∧ win0_9.index t0_0 = ![0, 0] ∧ win0_10.index t0_0 = ![0, 0] ∧ win0_11.index t0_0 = ![0, 0]
    ∧ win0_12.index t0_0 = ![0, 0] ∧ win0_13.index t0_0 = ![0, 0] := by decide +kernel

theorem block0 (b : Fin 128) (t : Fin 64) (d : Fin 256) : iblk m c 0 t0_0 (ix3 b t d) = m ((c : Thread nD τ).loc main_arg0) (ix3 b t d) := by
  blk_point [iblk, V, idx]

theorem block1 (b : Fin 128) : iblk m c 1 t0_0 (ix2 b 0) = m ((c : Thread nD τ).loc main_arg1) (ix1 b) := by
  blk_point [iblk, V, idx]

theorem block2 (b : Fin 128) : iblk m c 2 t0_0 (ix2 0 b) = m ((c : Thread nD τ).loc main_arg1) (ix1 b) := by
  blk_point [iblk, V, idx]

theorem block3 (d : Fin 256) (k : Fin 384) : iblk m c 3 t0_0 (ix2 d k) = m ((c : Thread nD τ).loc main_arg2) (ix2 k d) := by
  have h : ((cfg0.win 3).blk t0_0).view.emb (ix2 d k) = ix2 d k := by blk_ext [idx]
  show V m c main_call0_v2 (((cfg0.win 3).blk t0_0).view.emb (ix2 d k)) = _
  rw [h]
  entry_read
  show transpose S256x384 [1, 0] (m ((c : Thread nD τ).loc main_arg2) : Vec Ideal S384x256 .f32) transposes_S384x256_S256x384_1_0 (ix2 d k) = _
  pointwise

theorem block4 (i : Fin 128) (k : Fin 384) : iblk m c 4 t0_0 (ix2 i k) = m ((c : Thread nD τ).loc main_arg3) (ix2 k i) := by
  have h : ((cfg0.win 4).blk t0_0).view.emb (ix2 i k) = ix2 i k := by blk_ext [idx]
  show V m c main_call0_v3 (((cfg0.win 4).blk t0_0).view.emb (ix2 i k)) = _
  rw [h]
  entry_read
  show transpose S128x384 [1, 0] (m ((c : Thread nD τ).loc main_arg3) : Vec Ideal S384x128 .f32) transposes_S384x128_S128x384_1_0 (ix2 i k) = _
  pointwise

theorem block5 (k : Fin 384) : iblk m c 5 t0_0 (ix2 0 k) = m ((c : Thread nD τ).loc main_arg4) (ix1 k) := by
  blk_point [iblk, V, idx]

theorem block6 (k : Fin 384) : iblk m c 6 t0_0 (ix2 0 k) = m ((c : Thread nD τ).loc main_arg5) (ix1 k) := by
  blk_point [iblk, V, idx]

theorem block7 (i a : Fin 128) : iblk m c 7 t0_0 (ix2 i a) = m ((c : Thread nD τ).loc main_arg6) (ix2 a i) := by
  have h : ((cfg0.win 7).blk t0_0).view.emb (ix2 i a) = ix2 i a := by blk_ext [idx]
  show V m c main_call0_v6 (((cfg0.win 7).blk t0_0).view.emb (ix2 i a)) = _
  rw [h]
  entry_read
  show transpose S128x128 [1, 0] (m ((c : Thread nD τ).loc main_arg6) : Vec Ideal S128x128 .f32) transposes_S128x128_S128x128_1_0 (ix2 i a) = _
  pointwise

theorem block8 (a : Fin 128) (d : Fin 256) : iblk m c 8 t0_0 (ix2 a d) = m ((c : Thread nD τ).loc main_arg7) (ix2 a d) := by
  blk_point [iblk, V, idx]

theorem block9 (d : Fin 256) (j : Fin 128) : iblk m c 9 t0_0 (ix2 d j) = m ((c : Thread nD τ).loc main_arg8) (ix2 j d) := by
  have h : ((cfg0.win 9).blk t0_0).view.emb (ix2 d j) = ix2 d j := by blk_ext [idx]
  show V m c main_call0_v7 (((cfg0.win 9).blk t0_0).view.emb (ix2 d j)) = _
  rw [h]
  entry_read
  show transpose S256x128 [1, 0] (m ((c : Thread nD τ).loc main_arg8) : Vec Ideal S128x256 .f32) transposes_S128x256_S256x128_1_0 (ix2 d j) = _
  pointwise

theorem block10 (i : Fin 128) (k : Fin 100) : iblk m c 10 t0_0 (ix2 i k) = m ((c : Thread nD τ).loc main_arg9) (ix2 k i) := by
  have h : ((cfg0.win 10).blk t0_0).view.emb (ix2 i k) = ix2 i k := by blk_ext [idx]
  show V m c main_call0_v8 (((cfg0.win 10).blk t0_0).view.emb (ix2 i k)) = _
  rw [h]
  entry_read
  show transpose S128x100 [1, 0] (m ((c : Thread nD τ).loc main_arg9) : Vec Ideal S100x128 .f32) transposes_S100x128_S128x100_1_0 (ix2 i k) = _
  pointwise

theorem block11 (k : Fin 100) : iblk m c 11 t0_0 (ix2 0 k) = m ((c : Thread nD τ).loc main_arg10) (ix1 k) := by
  blk_point [iblk, V, idx]

theorem block12 (i : Fin 128) (k : Fin 48) : iblk m c 12 t0_0 (ix2 i k) = m ((c : Thread nD τ).loc main_arg11) (ix2 k i) := by
  have h : ((cfg0.win 12).blk t0_0).view.emb (ix2 i k) = ix2 i k := by blk_ext [idx]
  show V m c main_call0_v10 (((cfg0.win 12).blk t0_0).view.emb (ix2 i k)) = _
  rw [h]
  entry_read
  show transpose S128x48 [1, 0] (m ((c : Thread nD τ).loc main_arg11) : Vec Ideal S48x128 .f32) transposes_S48x128_S128x48_1_0 (ix2 i k) = _
  pointwise

theorem block13 (k : Fin 48) : iblk m c 13 t0_0 (ix2 0 k) = m ((c : Thread nD τ).loc main_arg12) (ix1 k) := by
  blk_point [iblk, V, idx]

end Cert.KernelIdeal.Gen

end
-- ==== Proof.Algebra.lean ====
module

public import Idealize.ShloMosaic.Lib.Pointwise
public import Idealize.ShloMosaic.Lib.ValueIdx

/-! Facts about extended reals: which values are real, the two ways to score a key, and the two ways to normalise masked exponentials. -/

@[expose] public section

noncomputable section

namespace Cert.Row

open Idealize.ShloMosaic

/-- The value is a real number. -/
def IsReal (a : EReal) : Prop := ∃ r : ℝ, a = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.select {a b : EReal} (c : BitVec 1) (ha : IsReal a) (hb : IsReal b) : IsReal (Scalar.select c a b) := by
  unfold Scalar.select; split <;> assumption

/-- The sum of finitely many reals, taken among the extended reals, is their sum as a real. -/
theorem coe_sum {ι : Type} (s : Finset ι) (f : ι → ℝ) : ∑ i ∈ s, (f i : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

theorem isReal_sum {ι : Type} (s : Finset ι) (f : ι → EReal) (h : ∀ i, IsReal (f i)) : IsReal (∑ i ∈ s, f i) := by
  choose g hg using h
  rw [Finset.sum_congr rfl fun i _ => hg i, coe_sum]
  exact isReal_coe _

/-- The logistic function of anything is real. -/
theorem isReal_logistic (a : EReal) : IsReal (Ideal.logistic a) := by
  induction a with
  | bot => rw [Ideal.logistic_bot]; exact isReal_zero
  | top => rw [Ideal.logistic_top]; exact isReal_one
  | coe r => rw [Ideal.logistic_coe]; exact isReal_coe _

/-- The hyperbolic tangent of anything is real. -/
theorem isReal_tanh (a : EReal) : IsReal (Ideal.tanh a) := by
  induction a with
  | bot => rw [Ideal.tanh_bot]; exact ⟨-1, by rw [EReal.coe_neg, EReal.coe_one]⟩
  | top => rw [Ideal.tanh_top]; exact isReal_one
  | coe r => rw [Ideal.tanh_coe]; exact isReal_coe _

/-- A number whose absolute value is below infinity is real. -/
theorem isReal_of_abs_lt (a : EReal) (h : max a (-a) < ⊤) : IsReal a := by
  induction a with
  | bot => simp at h
  | top => simp at h
  | coe r => exact isReal_coe r

theorem div_coe_coe (a b : ℝ) (hb : b ≠ 0) : Ideal.div (a : EReal) (b : EReal) = ((a / b : ℝ) : EReal) := by
  rw [Ideal.div_coe hb, ← EReal.coe_mul, mul_one_div]

theorem ofBits_128 : Ideal.ofBits .f32 0x43000000#32 = ((128 : ℝ) : EReal) := by
  simp [Ideal.ofBits, Ideal.ieee]
  rw [← EReal.coe_mul]
  norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-- The square root of 128. -/
theorem sqrt_128 : Ideal.sqrt (Ideal.ofBits .f32 0x43000000#32) = ((Real.sqrt 128 : ℝ) : EReal) := by
  rw [ofBits_128, Ideal.sqrt_coe, if_neg (by norm_num)]

theorem sqrt_128_ne : Real.sqrt 128 ≠ 0 := (Real.sqrt_pos.2 (by norm_num)).ne'

/-- A key's score, either by keys (each key projected, then multiplied with the query) or by the query (the query projected back once, then
    multiplied with each input), the division by the root of 128 turned into a product. -/
theorem score_eq {A D : Type} [Fintype A] [Fintype D] (x : D → EReal) (q : A → EReal) (w : A → D → EReal) (hx : ∀ d, IsReal (x d)) (hq : ∀ a, IsReal (q a))
    (hw : ∀ a d, IsReal (w a d)) :
    (∑ d, x d * ∑ a, q a * w a d) * Ideal.div 1 (Ideal.sqrt (Ideal.ofBits .f32 0x43000000#32))
      = Ideal.div (∑ a, q a * ∑ d, x d * w a d) (Ideal.sqrt (Ideal.ofBits .f32 0x43000000#32)) := by
  choose x' hx using hx
  choose q' hq using hq
  choose w' hw using hw
  rw [sqrt_128, Ideal.div_coe sqrt_128_ne, Ideal.div_coe sqrt_128_ne, one_mul]
  congr 1
  simp only [hx, hq, hw, ← EReal.coe_mul, coe_sum]
  congr 1
  simp only [Finset.mul_sum]
  rw [Finset.sum_comm]
  refine Finset.sum_congr rfl fun a _ => Finset.sum_congr rfl fun d _ => ?_
  ring

/-- A score is real. -/
theorem isReal_score {A D : Type} [Fintype A] [Fintype D] (x : D → EReal) (q : A → EReal) (w : A → D → EReal) (hx : ∀ d, IsReal (x d)) (hq : ∀ a, IsReal (q a))
    (hw : ∀ a d, IsReal (w a d)) : IsReal (Ideal.div (∑ a, q a * ∑ d, x d * w a d) (Ideal.sqrt (Ideal.ofBits .f32 0x43000000#32))) := by
  rw [sqrt_128, Ideal.div_coe sqrt_128_ne]
  exact (isReal_sum _ _ fun a => (hq a).mul (isReal_sum _ _ fun d => (hx d).mul (hw a d))).mul (isReal_coe _)

/-- The greatest of some reals, `⊥` the start, is real. -/
theorem isReal_fold_max {N : ℕ} [NeZero N] (S : Fin N → EReal) (hS : ∀ l, IsReal (S l)) : IsReal (Finset.fold max ⊥ S Finset.univ) := by
  obtain ⟨i, _, hi⟩ := Finset.exists_mem_eq_sup Finset.univ ⟨0, Finset.mem_univ (0 : Fin N)⟩ S
  have h : Finset.fold max ⊥ S Finset.univ = Finset.univ.sup S := rfl
  rw [h, hi]
  exact hS i

/-- The exponential of a real is real and positive. -/
theorem exp_pos {a : EReal} (h : IsReal a) : ∃ r : ℝ, Ideal.exp a = (r : EReal) ∧ 0 < r := by
  obtain ⟨s, rfl⟩ := h
  exact ⟨Real.exp s, Ideal.exp_coe s, Real.exp_pos s⟩

/-- Masked weights: to normalise the exponentials, mask them and normalise again is to mask them and normalise once. Where the mask is empty both are the
    quotient of zero by zero. -/
theorem renorm {N : ℕ} [NeZero N] (E : Fin N → EReal) (hE : ∀ l, ∃ r : ℝ, E l = (r : EReal) ∧ 0 < r) (c : Fin N → BitVec 1) (l : Fin N) :
    Ideal.div (Ideal.div (E l) (∑ x, E x) * (((c l).toNat : ℝ) : EReal)) (∑ y, Ideal.div (E y) (∑ x, E x) * (((c y).toNat : ℝ) : EReal))
      = Ideal.div (Scalar.select (c l) (E l) 0) (∑ y, Scalar.select (c y) (E y) 0) := by
  choose e he hpos using hE
  set s : ℝ := ∑ x, e x with hs
  have hs0 : 0 < s := Finset.sum_pos (fun i _ => hpos i) ⟨0, Finset.mem_univ _⟩
  have hsum : ∑ x, E x = (s : EReal) := by rw [Finset.sum_congr rfl fun i _ => he i, coe_sum]
  have hsel : ∀ y, Scalar.select (c y) (E y) 0 = ((e y * ((c y).toNat : ℝ) : ℝ) : EReal) := fun y => by
    have hc : ∀ b : BitVec 1, b = 1#1 ∨ b = 0#1 := by decide
    rcases hc (c y) with h | h
    · rw [h, he y]; simp [Scalar.select]
    · rw [h]; simp [Scalar.select]
  have hterm : ∀ y, Ideal.div (E y) (∑ x, E x) * (((c y).toNat : ℝ) : EReal) = ((e y * ((c y).toNat : ℝ) / s : ℝ) : EReal) := fun y => by
    rw [hsum, he y, div_coe_coe _ _ hs0.ne', ← EReal.coe_mul]
    congr 1; ring
  simp only [hterm, hsel, coe_sum]
  rw [← Finset.sum_div]
  set k : ℝ := ∑ y, e y * ((c y).toNat : ℝ) with hk
  by_cases hk0 : k = 0
  · have hl : e l * ((c l).toNat : ℝ) = 0 :=
      (Finset.sum_eq_zero_iff_of_nonneg fun i _ => mul_nonneg (hpos i).le (Nat.cast_nonneg _)).1 hk0 l (Finset.mem_univ l)
    rw [hk0, hl, zero_div]
  · rw [div_coe_coe _ _ (div_ne_zero hk0 hs0.ne'), div_coe_coe _ _ hk0]
    congr 1
    field_simp

end Cert.Row

end
-- ==== Proof.Spec.lean ====
module

public import proofs.«01_k».proof.Proof.Algebra

/-! One sequence's row, as mathematics: the gated recurrence over its steps, its query, and its masked attention weights. -/

@[expose] public section

noncomputable section

namespace Cert.Row

open Idealize.ShloMosaic

/-- The reset gate's column `j` among the 384 gate columns. -/
abbrev gr (j : Fin 128) : Fin 384 := ⟨j.val, by omega⟩
/-- The update gate's column `j`. -/
abbrev gz (j : Fin 128) : Fin 384 := ⟨128 + j.val, by omega⟩
/-- The candidate's column `j`. -/
abbrev gn (j : Fin 128) : Fin 384 := ⟨256 + j.val, by omega⟩

/-- The input's part of the gates. -/
def gi (x : Fin 256 → EReal) (W : Fin 384 → Fin 256 → EReal) (b : Fin 384 → EReal) (k : Fin 384) : EReal := ∑ d, x d * W k d + b k

/-- The state's part of the gates. -/
def gh (h : Fin 128 → EReal) (W : Fin 384 → Fin 128 → EReal) (b : Fin 384 → EReal) (k : Fin 384) : EReal := ∑ i, h i * W k i + b k

/-- One step of the recurrence at column `j`, from both parts of the gates. -/
def cell (i h : Fin 384 → EReal) (s : EReal) (j : Fin 128) : EReal :=
  (1 - Ideal.logistic (i (gz j) + h (gz j))) * Ideal.tanh (i (gn j) + Ideal.logistic (i (gr j) + h (gr j)) * h (gn j))
    + Ideal.logistic (i (gz j) + h (gz j)) * s

/-- The state after `t` steps; a step past the sequence's length `n` leaves it as it is. -/
def hid (g : Fin 64 → Fin 384 → EReal) (W : Fin 384 → Fin 128 → EReal) (b : Fin 384 → EReal) (n : BitVec 32) : ℕ → Fin 128 → EReal
  | 0 => fun _ => 0
  | t + 1 => fun j => Scalar.select (IntOp.cmpi .slt (Scf.iv 0#32 1#32 t) n)
      (cell (g (Fin.ofNat 64 t)) (gh (hid g W b n t) W b) (hid g W b n t j) j) (hid g W b n t j)

/-- The state is real, whatever the inputs. -/
theorem isReal_hid (g : Fin 64 → Fin 384 → EReal) (W : Fin 384 → Fin 128 → EReal) (b : Fin 384 → EReal) (n : BitVec 32) (t : ℕ) (j : Fin 128) :
    IsReal (hid g W b n t j) := by
  induction t with
  | zero => exact isReal_zero
  | succ t ih =>
    unfold hid cell
    exact IsReal.select _ (((isReal_one.sub (isReal_logistic _)).mul (isReal_tanh _)).add ((isReal_logistic _).mul ih)) ih

/-- The query of a state. -/
def query (h : Fin 128 → EReal) (Wq : Fin 128 → Fin 128 → EReal) (a : Fin 128) : EReal := ∑ i, h i * Wq a i

/-- The scaled score of step `l` against a query. -/
def score (x : Fin 64 → Fin 256 → EReal) (q : Fin 128 → EReal) (Wk : Fin 128 → Fin 256 → EReal) (l : Fin 64) : EReal :=
  Ideal.div (∑ a, q a * ∑ d, x l d * Wk a d) (Ideal.sqrt (Ideal.ofBits .f32 0x43000000#32))

/-- The exponential of a score less the greatest score. -/
def expo (S : Fin 64 → EReal) (l : Fin 64) : EReal := Ideal.exp (S l - Finset.fold max (Ideal.ofBits .f32 0xFF800000#32) S Finset.univ)

/-- The weight of step `l`: its exponential among those of the steps before the length. -/
def weight (S : Fin 64 → EReal) (n : BitVec 32) (l : Fin 64) : EReal :=
  Ideal.div (Scalar.select (IntOp.cmpi .slt (BitVec.ofNat 32 l.val) n) (expo S l) 0)
    (∑ y : Fin 64, Scalar.select (IntOp.cmpi .slt (BitVec.ofNat 32 y.val) n) (expo S y) 0)

/-- The weighted values plus the query. -/
def mix (w : Fin 64 → EReal) (x : Fin 64 → Fin 256 → EReal) (Wv : Fin 128 → Fin 256 → EReal) (q : Fin 128 → EReal) (j : Fin 128) : EReal :=
  ∑ l, w l * max (∑ d, x l d * Wv j d) 0 + q j

section Rows

variable (x : Fin 64 → Fin 256 → EReal) (n : BitVec 32) (Wih : Fin 384 → Fin 256 → EReal) (Whh : Fin 384 → Fin 128 → EReal) (bih bhh : Fin 384 → EReal)
  (Wq : Fin 128 → Fin 128 → EReal) (Wk Wv : Fin 128 → Fin 256 → EReal)

/-- The state after all the steps. -/
def rowState : Fin 128 → EReal := hid (fun t k => gi (x t) Wih bih k) Whh bhh n 64

/-- The attention weights of a sequence. -/
def rowWeight : Fin 64 → EReal := weight (score x (query (rowState x n Wih Whh bih bhh) Wq) Wk) n

/-- The mixed row of a sequence. -/
def rowMix : Fin 128 → EReal := mix (rowWeight x n Wih Whh bih bhh Wq Wk) x Wv (query (rowState x n Wih Whh bih bhh) Wq)

end Rows

/-- A linear layer of a row. -/
def layer {N : ℕ} (r : Fin 128 → EReal) (W : Fin N → Fin 128 → EReal) (b : Fin N → EReal) (k : Fin N) : EReal := ∑ i, r i * W k i + b k

end Cert.Row

end
-- ==== Proof.KernelPure.lean ====
module

public import proofs.«01_k».proof.Proof.Gen.KernelIdeal.Skeleton
public import proofs.«01_k».proof.Proof.Spec
public import Idealize.ShloMosaic.Lib.Pointwise

/-! The kernel's computed arrays, read at coordinates. -/

@[expose] public section

set_option maxRecDepth 16384

noncomputable section

namespace Cert.KernelIdeal.Gen

open Idealize.ShloMosaic Idealize.ShloMosaic.TcCoe Idealize.SL.Sem
open Cert.KernelIdeal Cert.Row

/-- The input gates. -/
theorem inputGates_at (x : Vec Ideal S128x64x256 .f32) (W : Vec Ideal S256x384 .f32) (c : Vec Ideal S1x384 .f32) (b : Fin 128) (t : Fin 64) (k : Fin 384) :
    k0_pay5 x W c (ix3 b t k) = gi (fun d => x (ix3 b t d)) (fun k d => W (ix2 d k)) (fun k => c (ix2 0 k)) k := by
  pointwise [k0_pay5, k0_pay4]
  rfl

/-- The values. -/
theorem values_at (x : Vec Ideal S128x64x256 .f32) (W : Vec Ideal S256x128 .f32) (b : Fin 128) (t : Fin 64) (k : Fin 128) :
    k0_pay6 x W (ix3 b t k) = max (∑ d, x (ix3 b t d) * W (ix2 d k)) 0 := by
  pointwise [k0_pay6, k0_pay4]

/-- The loop starts at zero. -/
theorem zeros_at (b j : Fin 128) : k0_pay10 (F := Ideal) (ix2 b j) = 0 := by
  pointwise [k0_pay10]

/-- The weights of row `b`. -/
theorem weights_at (x : Vec Ideal S128x64x256 .f32) (n : IVec S128x1 32) (h : FVec Ideal S128x128 .f32) (Wq : Vec Ideal S128x128 .f32) (Wk : Vec Ideal S128x256 .f32)
    (hx : ∀ b l d, IsReal (x (ix3 b l d))) (hh : ∀ b j, IsReal (h (ix2 b j))) (hq : ∀ i j, IsReal (Wq (ix2 i j))) (hk : ∀ a d, IsReal (Wk (ix2 a d)))
    (b : Fin 128) (l : Fin 64) :
    k0_pay13 x n h Wq Wk (ix2 b l)
      = weight (score (fun l d => x (ix3 b l d)) (query (fun i => h (ix2 b i)) (fun a i => Wq (ix2 i a))) (fun a d => Wk (ix2 a d))) (n (ix2 b 0)) l := by
  have hs : ∀ l, (∑ d, x (ix3 b l d) * ∑ a, (∑ i, h (ix2 b i) * Wq (ix2 i a)) * Wk (ix2 a d)) * Ideal.div 1 (Scalar.sqrt (F := Ideal) (Ideal.ofBits .f32 0x43000000#32))
      = score (fun l d => x (ix3 b l d)) (query (fun i => h (ix2 b i)) (fun a i => Wq (ix2 i a))) (fun a d => Wk (ix2 a d)) l := fun l =>
    score_eq (fun d => x (ix3 b l d)) (fun a => ∑ i, h (ix2 b i) * Wq (ix2 i a)) (fun a d => Wk (ix2 a d)) (fun d => hx b l d)
      (fun a => isReal_sum _ _ fun i => (hh b i).mul (hq i a)) (fun a d => hk a d)
  pointwise [k0_pay13, k0_pay12]
  simp only [hs]
  rfl

/-- The mixed row `b`. -/
theorem mixed_at (x : Vec Ideal S128x64x256 .f32) (n : IVec S128x1 32) (h : FVec Ideal S128x128 .f32) (Wq : Vec Ideal S128x128 .f32) (Wk : Vec Ideal S128x256 .f32)
    (v : Vec Ideal S128x64x128 .f32) (b j : Fin 128) :
    k0_pay14 x n h Wq Wk v (ix2 b j)
      = ∑ l, k0_pay13 x n h Wq Wk (ix2 b l) * v (ix3 b l j) + query (fun i => h (ix2 b i)) (fun a i => Wq (ix2 i a)) j := by
  pointwise [k0_pay14, k0_pay12]
  rfl

/-- The class scores of a mixed row. -/
theorem classes_at (o : FVec Ideal S128x128 .f32) (W : Vec Ideal S128x100 .f32) (c : Vec Ideal S1x100 .f32) (b : Fin 128) (k : Fin 100) :
    k0_pay2 o W c (ix2 b k) = ∑ i, o (ix2 b i) * W (ix2 i k) + c (ix2 0 k) := by
  pointwise [k0_pay2]

/-- The hash code of a mixed row. -/
theorem hash_at (o : FVec Ideal S128x128 .f32) (W : Vec Ideal S128x48 .f32) (c : Vec Ideal S1x48 .f32) (b : Fin 128) (k : Fin 48) :
    k0_pay3 o W c (ix2 b k) = Ideal.tanh (∑ i, o (ix2 b i) * W (ix2 i k) + c (ix2 0 k)) := by
  pointwise [k0_pay3]

/-- The lengths as the kernel compares them. -/
theorem lengths_at (n : Vec Ideal S128x1 .i32) (b : Fin 128) : k0_pay7 (F := Ideal) n (ix2 b 0) = n (ix2 b 0) := by
  pointwise [k0_pay7]

/-- The state's bias. -/
theorem bias_at (c : Vec Ideal S1x384 .f32) (k : Fin 384) : k0_pay8 c (ix2 0 k) = c (ix2 0 k) := by
  pointwise [k0_pay8]

/-- The state's gate weights. -/
theorem stateGates_at (W : Vec Ideal S128x384 .f32) (i : Fin 128) (k : Fin 384) : k0_pay9 W (ix2 i k) = W (ix2 i k) := by
  pointwise [k0_pay9]

end Cert.KernelIdeal.Gen

end
-- ==== Proof.KernelLoop.lean ====
module

public import proofs.«01_k».proof.Proof.Gen.KernelIdeal.Loops
public import proofs.«01_k».proof.Proof.Spec
public import Idealize.ShloMosaic.Lib.Pointwise
public import Idealize.ShloMosaic.Lib.Pipeline.ValueKit

/-! The kernel's counted loop: its carried array holds, row by row, the recurrence's state. -/

@[expose] public section

set_option maxRecDepth 16384

noncomputable section

namespace Cert.KernelIdeal.Gen

open Idealize.ShloMosaic Idealize.ShloMosaic.TcCoe Idealize.SL.Sem
open Cert.KernelIdeal Cert.Row

/-- One step at row `b`, column `j`. -/
theorem step_at (v23 : IVec S128x1 32) (v25 : FVec Ideal S1x384 .f32) (v27 : FVec Ideal S128x384 .f32) (t : Fin k0_t1_loop.trips)
    (h : FVec Ideal S128x128 .f32) (g : Vec Ideal S128x1x384 .f32) (b j : Fin 128) :
    k0_pay11 v23 v25 v27 0#32 1#32 t h g (ix2 b j)
      = Scalar.select (IntOp.cmpi .slt (Scf.iv 0#32 1#32 t) (v23 (ix2 b 0)))
          (cell (fun k => g (ix3 b 0 k)) (gh (fun i => h (ix2 b i)) (fun k i => v27 (ix2 i k)) (fun k => v25 (ix2 0 k))) (h (ix2 b j)) j) (h (ix2 b j)) := by
  pointwise [k0_pay11]
  rfl

/-- A trip's read of the input gates is row `t` of every sequence. -/
theorem gates_at (G : FVec Ideal S128x64x384 .f32) (t : Fin k0_t1_loop.trips) (b : Fin 128) (k : Fin 384)
    (hin : ∀ a, k0_off1 t a + S128x1x384.size a ≤ S128x64x384.size a) :
    View.ld (Val := Elt Ideal) (e' := .f32) G (Rect.unit (s := S128x64x384) (k0_off1 t) S128x1x384.size hin) (ix3 b 0 k)
      = G (ix3 b (Fin.ofNat 64 t.val) k) := by
  have ht : t.val < 64 := Nat.lt_of_lt_of_le t.isLt k0_t1_abs.2.1
  have ho : (Scf.iv 0#32 1#32 t.val).toNat = t.val := by
    simp only [Scf.iv]
    simp
    omega
  refine View.ld_unit_apply_of _ _ _ _ _ _ fun a => ?_
  match a with
  | ⟨0, _⟩ => show b.val = 0 + b.val; omega
  | ⟨1, _⟩ => show t.val % 64 = (Scf.iv 0#32 1#32 t.val).toNat + 0; omega
  | ⟨2, _⟩ => show k.val = 0 + k.val; omega

/-- A step from an array whose row `b` is the state after `k` steps leaves there the state after `k + 1`. -/
theorem row_step (v23 : IVec S128x1 32) (v25 : FVec Ideal S1x384 .f32) (v27 : FVec Ideal S128x384 .f32) (t : Fin k0_t1_loop.trips)
    (S : FVec Ideal S128x128 .f32) (G : FVec Ideal S128x64x384 .f32) (hin : ∀ a, k0_off1 t a + S128x1x384.size a ≤ S128x64x384.size a) (b j : Fin 128)
    (hS : ∀ j, S (ix2 b j) = hid (fun t k => G (ix3 b t k)) (fun k i => v27 (ix2 i k)) (fun k => v25 (ix2 0 k)) (v23 (ix2 b 0)) t.val j) :
    k0_pay11 v23 v25 v27 0#32 1#32 t S (View.ld (Val := Elt Ideal) (e' := .f32) G (Rect.unit (s := S128x64x384) (k0_off1 t) S128x1x384.size hin)) (ix2 b j)
      = hid (fun t k => G (ix3 b t k)) (fun k i => v27 (ix2 i k)) (fun k => v25 (ix2 0 k)) (v23 (ix2 b 0)) (t.val + 1) j := by
  rw [step_at]
  simp only [hS]
  exact congrArg (fun g => Scalar.select (IntOp.cmpi .slt (Scf.iv 0#32 1#32 t) (v23 (ix2 b 0))) (cell g _ _ j) _) (funext fun k => gates_at G t b k hin)

/-- One trip yields the step of the carried array. -/
theorem trip_eq (𝒱 : Variants) (c : Dev nD) (bd : Option 𝒱.V) (arg0 : Memref sig .tc .vmem S128x64x256 .f32) (harg0 : arg0.IsWhole) (arg1 : Memref sig .tc .vmem S128x1 .i32) (harg1 : arg1.IsWhole) (arg2 : Memref sig .tc .vmem S1x128 .i32) (harg2 : arg2.IsWhole) (arg3 : Memref sig .tc .vmem S256x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S128x128 .f32) (harg7 : arg7.IsWhole) (arg8 : Memref sig .tc .vmem S128x256 .f32) (harg8 : arg8.IsWhole) (arg9 : Memref sig .tc .vmem S256x128 .f32) (harg9 : arg9.IsWhole) (arg10 : Memref sig .tc .vmem S128x100 .f32) (harg10 : arg10.IsWhole) (arg11 : Memref sig .tc .vmem S1x100 .f32) (harg11 : arg11.IsWhole) (arg12 : Memref sig .tc .vmem S128x48 .f32) (harg12 : arg12.IsWhole) (arg13 : Memref sig .tc .vmem S1x48 .f32) (harg13 : arg13.IsWhole) (arg14 : Memref sig .tc .vmem S128x100 .f32) (harg14 : arg14.IsWhole) (arg15 : Memref sig .tc .vmem S128x48 .f32) (harg15 : arg15.IsWhole) (arg16 : Memref sig .tc .vmem S128x64 .f32) (harg16 : arg16.IsWhole) (arg17 : Memref sig .tc .vmem S128x64x384 .f32) (harg17 : arg17.IsWhole) (arg18 : Memref sig .tc .vmem S128x64x128 .f32) (harg18 : arg18.IsWhole) (v0 : Vec Ideal S128x64x256 .f32) (v23 : IVec S128x1 32) (v25 : FVec Ideal S1x384 .f32) (v27 : FVec Ideal S128x384 .f32) (v28 : FVec Ideal S128x128 .f32) (c0_i32 : BitVec 32) (c1_i32 : BitVec 32) (X_arg17 : BufTy.Contents (Elt Ideal) arg17.view.ty) (k : Fin k0_t1_loop.trips) (acc : FVec Ideal S128x128 .f32) :
    ∃ hin, tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v23 v25 v27 v28 c0_i32 c1_i32 X_arg17 k acc
      = k0_pay11 v23 v25 v27 c0_i32 c1_i32 k acc
          (View.ld (Val := Elt Ideal) (e' := .f32) (View.read (Elt Ideal) arg17.view X_arg17) (Rect.unit (s := S128x64x384) (k0_off1 k) S128x1x384.size hin)) := by
  refine ⟨k0_off1_inb k, ?_⟩
  unfold tripR_k0_t1 trip_k0_t1
  frame_out

/-- After `k` trips the carried array holds every row's state after `k` steps. -/
theorem carried_at (𝒱 : Variants) (c : Dev nD) (bd : Option 𝒱.V) (arg0 : Memref sig .tc .vmem S128x64x256 .f32) (harg0 : arg0.IsWhole) (arg1 : Memref sig .tc .vmem S128x1 .i32) (harg1 : arg1.IsWhole) (arg2 : Memref sig .tc .vmem S1x128 .i32) (harg2 : arg2.IsWhole) (arg3 : Memref sig .tc .vmem S256x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S128x128 .f32) (harg7 : arg7.IsWhole) (arg8 : Memref sig .tc .vmem S128x256 .f32) (harg8 : arg8.IsWhole) (arg9 : Memref sig .tc .vmem S256x128 .f32) (harg9 : arg9.IsWhole) (arg10 : Memref sig .tc .vmem S128x100 .f32) (harg10 : arg10.IsWhole) (arg11 : Memref sig .tc .vmem S1x100 .f32) (harg11 : arg11.IsWhole) (arg12 : Memref sig .tc .vmem S128x48 .f32) (harg12 : arg12.IsWhole) (arg13 : Memref sig .tc .vmem S1x48 .f32) (harg13 : arg13.IsWhole) (arg14 : Memref sig .tc .vmem S128x100 .f32) (harg14 : arg14.IsWhole) (arg15 : Memref sig .tc .vmem S128x48 .f32) (harg15 : arg15.IsWhole) (arg16 : Memref sig .tc .vmem S128x64 .f32) (harg16 : arg16.IsWhole) (arg17 : Memref sig .tc .vmem S128x64x384 .f32) (harg17 : arg17.IsWhole) (arg18 : Memref sig .tc .vmem S128x64x128 .f32) (harg18 : arg18.IsWhole) (v0 : Vec Ideal S128x64x256 .f32) (v23 : IVec S128x1 32) (v25 : FVec Ideal S1x384 .f32) (v27 : FVec Ideal S128x384 .f32) (v28 : FVec Ideal S128x128 .f32)  (X_arg17 : BufTy.Contents (Elt Ideal) arg17.view.ty)
    (hz : ∀ b j, v28 (ix2 b j) = 0) (k : ℕ) (hk : k ≤ k0_t1_loop.trips) (b j : Fin 128) :
    st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v23 v25 v27 v28 0#32 1#32 X_arg17 v28 k (ix2 b j)
      = hid (fun t k => View.read (Elt Ideal) arg17.view X_arg17 (ix3 b t k)) (fun k i => v27 (ix2 i k)) (fun k => v25 (ix2 0 k)) (v23 (ix2 b 0)) k j := by
  induction k generalizing j with
  | zero => rw [st_k0_t1_zero]; exact hz b j
  | succ k ih =>
    have hk' : k < k0_t1_loop.trips := hk
    rw [st_k0_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v23 v25 v27 v28 0#32 1#32 X_arg17 v28 ⟨k, hk'⟩]
    obtain ⟨hin, h⟩ := trip_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v23 v25 v27 v28 0#32 1#32 X_arg17 ⟨k, hk'⟩
      (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v23 v25 v27 v28 0#32 1#32 X_arg17 v28 k)
    rw [h]
    exact row_step v23 v25 v27 ⟨k, hk'⟩ _ _ hin b j fun j => ih hk'.le j

end Cert.KernelIdeal.Gen

end
-- ==== Proof.Sorting.lean ====
module

public import Idealize.ShloMosaic.Lib.SortFacts
public import Idealize.ShloMosaic.Lib.Pointwise

/-! A stable sort of the positions by an integer key: the sorted order is strict for the key and then the position, so a position's place is the number of positions before it. -/

@[expose] public section

noncomputable section

namespace Cert.Row

open Idealize.ShloMosaic

/-- Position `a` comes before position `b`: the smaller key first, the earlier position among equal keys. -/
def Before {n : ℕ} (K : Fin n → ℤ) (a b : Fin n) : Prop := K a < K b ∨ (K a = K b ∧ a < b)

instance {n : ℕ} (K : Fin n → ℤ) (a b : Fin n) : Decidable (Before K a b) := inferInstanceAs (Decidable (_ ∨ _))

theorem Before.irrefl {n : ℕ} {K : Fin n → ℤ} {a : Fin n} : ¬Before K a a := by
  rintro (h | ⟨_, h⟩)
  · exact lt_irrefl _ h
  · exact lt_irrefl _ h

theorem Before.total {n : ℕ} {K : Fin n → ℤ} {a b : Fin n} (h : ¬Before K b a) (hne : a ≠ b) : Before K a b := by
  unfold Before at *
  push Not at h
  rcases lt_or_eq_of_le h.1 with h1 | h1
  · exact Or.inl h1
  · exact Or.inr ⟨h1, lt_of_le_of_ne (h.2 h1.symm) hne⟩

/-- Along an ascending list the stable sort by the key alone is the sort by key and position. -/
theorem stableSort_before {n : ℕ} (K : Fin n → ℤ) (l : List (Fin n)) (hl : l.Pairwise (· < ·)) :
    stableSort (fun a b => decide (K a < K b)) l = stableSort (fun a b => decide (Before K a b)) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.1 hb)
    have : ¬b < a := not_lt_of_gt hab
    simp [Before, this]

/-- The sorted order: the position at each place. -/
def place {n : ℕ} (K : Fin n → ℤ) : Fin n → Fin n := sortedFrom fun a b => decide (K a < K b)

theorem place_bijective {n : ℕ} (K : Fin n → ℤ) : Function.Bijective (place K) := ⟨sortedFrom_injective _, sortedFrom_surjective _⟩

/-- Earlier places hold earlier positions. -/
theorem place_strict {n : ℕ} (K : Fin n → ℤ) {i j : Fin n} (hij : i < j) : Before K (place K i) (place K j) := by
  have h : place K = sortedFrom fun a b => decide (Before K a b) := by
    funext k
    unfold place sortedFrom
    rw [List.get_of_eq (show sortPositions n _ = sortPositions n _ from stableSort_before K (List.finRange n) (List.pairwise_lt_finRange n))]
    rfl
  have hno : ¬Before K (place K j) (place K i) := by
    rw [h]
    have := sortedFrom_noInversion (fun a b => decide (Before K a b)) (fun a b => decide (Before K a b)) ?_ (fun _ _ h => h) ?_ i j hij
    · simpa using this
    · intro a b hab
      simp only [decide_eq_true_eq, decide_eq_false_iff_not] at *
      unfold Before at *
      omega
    · intro a b c h1 h2
      simp only [decide_eq_false_iff_not] at *
      unfold Before at *
      omega
  exact Before.total hno fun e => hij.ne ((place_bijective K).1 e)

/-- The place of a position is the number of positions before it. -/
theorem card_before {n : ℕ} (K : Fin n → ℤ) (r : Fin n) : (Finset.univ.filter fun a => Before K a (place K r)).card = r.val := by
  have h : (Finset.univ.filter fun a => Before K a (place K r)) = (Finset.Iio r).map ⟨place K, (place_bijective K).1⟩ := by
    ext a
    simp only [Finset.mem_filter, Finset.mem_univ, true_and, Finset.mem_map, Finset.mem_Iio, Function.Embedding.coeFn_mk]
    obtain ⟨i, rfl⟩ := (place_bijective K).2 a
    constructor
    · intro hb
      refine ⟨i, ?_, rfl⟩
      rcases lt_trichotomy i r with h | h | h
      · exact h
      · exact (Before.irrefl (h ▸ hb)).elim
      · have := place_strict K h
        unfold Before at *
        omega
    · rintro ⟨k, hk, e⟩
      rw [← e]
      exact place_strict K hk
  rw [h, Finset.card_map, Fin.card_Iio]

/-- The sort key of lengths: the longest first. -/
def key {n : ℕ} (len : Fin n → BitVec 32) (a : Fin n) : ℤ := -(len a).toInt

end Cert.Row

end
-- ==== Proof.KernelPerm.lean ====
module

public import proofs.«01_k».proof.Proof.Gen.KernelIdeal.Skeleton
public import proofs.«01_k».proof.Proof.Sorting
public import Idealize.ShloMosaic.Lib.Pointwise
public import Idealize.ShloMosaic.Lib.Affine
public import Idealize.ShloMosaic.Lib.IndicatorCount

/-! The kernel sorts the weights' rows by a product with a matrix of zeros and ones: it counts, for each position, the positions before it. -/

@[expose] public section

set_option maxRecDepth 16384

noncomputable section

namespace Cert.KernelIdeal.Gen

open Idealize.ShloMosaic Idealize.ShloMosaic.TcCoe Idealize.SL.Sem
open Cert.KernelIdeal Cert.Row

/-- The bit "position `a` comes before position `b`" as the kernel computes it. -/
theorem before_bit (n : Fin 128 → BitVec 32) (a b : Fin 128) :
    IntOp.ori (IntOp.cmpi .sgt (n a) (n b)) (IntOp.andi (IntOp.cmpi .eq (n a) (n b)) (IntOp.cmpi .slt (BitVec.ofNat 32 a.val) (BitVec.ofNat 32 b.val))) = 1#1
      ↔ Before (key n) a b := by
  have hor : ∀ x y : BitVec 1, IntOp.ori x y = 1#1 ↔ x = 1#1 ∨ y = 1#1 := by decide
  have hand : ∀ x y : BitVec 1, IntOp.andi x y = 1#1 ↔ x = 1#1 ∧ y = 1#1 := by decide
  have hi : ∀ c : Fin 128, (BitVec.ofNat 32 c.val).toInt = (c.val : ℤ) := fun c => by
    have := c.isLt
    rw [BitVec.toInt_eq_toNat_of_lt (by simp; omega)]
    simp
    omega
  rw [hor, hand, IntOp.cmpi_sgt, IntOp.cmpi_eq, IntOp.cmpi_slt, hi, hi, ← BitVec.toInt_inj]
  unfold Before key
  rw [Fin.lt_def]
  omega

/-- Row `b` of the product is the weights' row at the sorted order's place `b`. -/
theorem sorted_at (n : IVec S128x1 32) (w : FVec Ideal S128x64 .f32) (n' : Vec Ideal S1x128 .i32) (hn : ∀ x, n' (ix2 0 x) = n (ix2 x 0)) (b : Fin 128) (l : Fin 64) :
    k0_pay1 n w (k0_pay15 (F := Ideal) n') (iota .tc S128x128 32 [0] iota_S128x128_d0_w32) (iota .tc S128x128 32 [1] iota_S128x128_d1_w32)
        (k0_pay16 (F := Ideal) n n') (ix2 b l)
      = w (ix2 (place (key fun x => n (ix2 x 0)) b) l) := by
  set K := key fun x => n (ix2 x 0) with hK
  pointwise [k0_pay1, k0_pay15, k0_pay16]
  simp only [hn, IndicatorCount.fold_addi_setWidth_eq_card]
  have hone : ∀ x : Fin 128, IntOp.cmpi .eq (BitVec.ofNat 32 b.val) (BitVec.ofNat 32 (Finset.univ.filter fun a : Fin 128 =>
      IntOp.ori (IntOp.cmpi .sgt (n (ix2 a 0)) (n (ix2 x 0))) (IntOp.andi (IntOp.cmpi .eq (n (ix2 a 0)) (n (ix2 x 0)))
        (IntOp.cmpi .slt (BitVec.ofNat 32 a.val) (BitVec.ofNat 32 x.val))) = 1#1).card) = 1#1 ↔ x = place K b := fun x => by
    obtain ⟨r, rfl⟩ := (place_bijective K).2 x
    have hc := card_before K r
    have hf : (Finset.univ.filter fun a : Fin 128 => IntOp.ori (IntOp.cmpi .sgt (n (ix2 a 0)) (n (ix2 (place K r) 0)))
        (IntOp.andi (IntOp.cmpi .eq (n (ix2 a 0)) (n (ix2 (place K r) 0))) (IntOp.cmpi .slt (BitVec.ofNat 32 a.val) (BitVec.ofNat 32 (place K r).val))) = 1#1)
        = Finset.univ.filter fun a => Before K a (place K r) :=
      Finset.filter_congr fun a _ => before_bit (fun x => n (ix2 x 0)) a (place K r)
    rw [hf, hc, IntOp.cmpi_eq, (place_bijective K).1.eq_iff, ← BitVec.toNat_inj]
    simp only [BitVec.toNat_ofNat]
    have := b.isLt
    have := r.isLt
    rw [Fin.ext_iff]
    omega
  rw [Finset.sum_eq_single (place K b)]
  · rw [(hone _).2 rfl]
    show ((((1#1).setWidth 32).toInt : ℝ) : EReal) * _ = _
    have : ((1#1).setWidth 32).toInt = 1 := by decide
    rw [this]
    simp
  · intro x _ hx
    have h0 : ∀ c : BitVec 1, c ≠ 1#1 → c = 0#1 := by decide
    rw [h0 _ fun h => hx ((hone x).1 h)]
    show ((((0#1).setWidth 32).toInt : ℝ) : EReal) * _ = _
    have : ((0#1).setWidth 32).toInt = 0 := by decide
    rw [this]
    simp
  · intro h
    exact (h (Finset.mem_univ _)).elim

end Cert.KernelIdeal.Gen

end
-- ==== Proof.KernelValue.lean ====
module

public import proofs.«01_k».proof.Proof.KernelBlocks
public import proofs.«01_k».proof.Proof.KernelPure
public import proofs.«01_k».proof.Proof.KernelLoop
public import proofs.«01_k».proof.Proof.KernelPerm
public import Idealize.ShloMosaic.Lib.Pipeline.ReadBack

/-! The kernel's three results, as rows of the argument arrays. -/

@[expose] public section

set_option maxRecDepth 16384

noncomputable section

namespace Cert.KernelIdeal.Gen

open Idealize.ShloMosaic Idealize.ShloMosaic.TcCoe Idealize.SL.Sem
open Cert.KernelIdeal Cert.Row

section Pure

variable (x : Fin 128 → Fin 64 → Fin 256 → EReal) (n : Fin 128 → BitVec 32) (Wih : Fin 384 → Fin 256 → EReal) (Whh : Fin 384 → Fin 128 → EReal)
  (bih bhh : Fin 384 → EReal) (Wq : Fin 128 → Fin 128 → EReal) (Wk Wv : Fin 128 → Fin 256 → EReal)

/-- The weights from the states. -/
theorem weights_core (X : Vec Ideal S128x64x256 .f32) (N : IVec S128x1 32) (h : FVec Ideal S128x128 .f32) (Q : Vec Ideal S128x128 .f32) (K : Vec Ideal S128x256 .f32)
    (rx : ∀ b l d, IsReal (x b l d)) (rq : ∀ a i, IsReal (Wq a i)) (rk : ∀ a d, IsReal (Wk a d))
    (hx : ∀ b l d, X (ix3 b l d) = x b l d) (hn : ∀ b, N (ix2 b 0) = n b)
    (hh : ∀ b j, h (ix2 b j) = rowState (x b) (n b) Wih Whh bih bhh j)
    (hq : ∀ i a, Q (ix2 i a) = Wq a i) (hk : ∀ a d, K (ix2 a d) = Wk a d) (b : Fin 128) (l : Fin 64) :
    k0_pay13 X N h Q K (ix2 b l) = rowWeight (x b) (n b) Wih Whh bih bhh Wq Wk l := by
  rw [weights_at X N h Q K (fun b l d => by rw [hx]; exact rx b l d) (fun b j => by rw [hh]; exact isReal_hid _ _ _ _ _ _)
    (fun i a => by rw [hq]; exact rq a i) (fun a d => by rw [hk]; exact rk a d)]
  simp only [hx, hn, hh, hq, hk]
  rfl

/-- The mixed rows from the states. -/
theorem mixed_core (X : Vec Ideal S128x64x256 .f32) (N : IVec S128x1 32) (h : FVec Ideal S128x128 .f32) (Q : Vec Ideal S128x128 .f32) (K : Vec Ideal S128x256 .f32)
    (V : Vec Ideal S256x128 .f32)
    (rx : ∀ b l d, IsReal (x b l d)) (rq : ∀ a i, IsReal (Wq a i)) (rk : ∀ a d, IsReal (Wk a d))
    (hx : ∀ b l d, X (ix3 b l d) = x b l d) (hn : ∀ b, N (ix2 b 0) = n b)
    (hh : ∀ b j, h (ix2 b j) = rowState (x b) (n b) Wih Whh bih bhh j)
    (hq : ∀ i a, Q (ix2 i a) = Wq a i) (hk : ∀ a d, K (ix2 a d) = Wk a d) (hv : ∀ d j, V (ix2 d j) = Wv j d) (b j : Fin 128) :
    k0_pay14 X N h Q K (k0_pay6 X V) (ix2 b j) = rowMix (x b) (n b) Wih Whh bih bhh Wq Wk Wv j := by
  rw [mixed_at]
  simp only [weights_core x n Wih Whh bih bhh Wq Wk X N h Q K rx rq rk hx hn hh hq hk, values_at, hx, hh, hq, hv]
  rfl

end Pure

variable (m : (ℓ : Loc nD τ sig) → Buf (Elt Ideal) ℓ) (c : Dev nD)

/-- The kernel's states, from its arrays. -/
abbrev stateOf (b : Fin 128) : Fin 128 → EReal :=
  rowState (fun l d => m ((c : Thread nD τ).loc main_arg0) (ix3 b l d)) (m ((c : Thread nD τ).loc main_arg1) (ix1 b))
    (fun k d => m ((c : Thread nD τ).loc main_arg2) (ix2 k d)) (fun k i => m ((c : Thread nD τ).loc main_arg3) (ix2 k i))
    (fun k => m ((c : Thread nD τ).loc main_arg4) (ix1 k)) (fun k => m ((c : Thread nD τ).loc main_arg5) (ix1 k))

/-- The kernel's weights, from its arrays. -/
abbrev weightOf (b : Fin 128) : Fin 64 → EReal :=
  rowWeight (fun l d => m ((c : Thread nD τ).loc main_arg0) (ix3 b l d)) (m ((c : Thread nD τ).loc main_arg1) (ix1 b))
    (fun k d => m ((c : Thread nD τ).loc main_arg2) (ix2 k d)) (fun k i => m ((c : Thread nD τ).loc main_arg3) (ix2 k i))
    (fun k => m ((c : Thread nD τ).loc main_arg4) (ix1 k)) (fun k => m ((c : Thread nD τ).loc main_arg5) (ix1 k))
    (fun a i => m ((c : Thread nD τ).loc main_arg6) (ix2 a i)) (fun a d => m ((c : Thread nD τ).loc main_arg7) (ix2 a d))

/-- The kernel's mixed rows, from its arrays. -/
abbrev mixOf (b : Fin 128) : Fin 128 → EReal :=
  rowMix (fun l d => m ((c : Thread nD τ).loc main_arg0) (ix3 b l d)) (m ((c : Thread nD τ).loc main_arg1) (ix1 b))
    (fun k d => m ((c : Thread nD τ).loc main_arg2) (ix2 k d)) (fun k i => m ((c : Thread nD τ).loc main_arg3) (ix2 k i))
    (fun k => m ((c : Thread nD τ).loc main_arg4) (ix1 k)) (fun k => m ((c : Thread nD τ).loc main_arg5) (ix1 k))
    (fun a i => m ((c : Thread nD τ).loc main_arg6) (ix2 a i)) (fun a d => m ((c : Thread nD τ).loc main_arg7) (ix2 a d))
    (fun a d => m ((c : Thread nD τ).loc main_arg8) (ix2 a d))

/-- The class scores of mixed rows. -/
theorem classes_core (o : FVec Ideal S128x128 .f32) (W : Vec Ideal S128x100 .f32) (a : Vec Ideal S1x100 .f32) (r : Fin 128 → Fin 128 → EReal)
    (W' : Fin 100 → Fin 128 → EReal) (a' : Fin 100 → EReal) (ho : ∀ b i, o (ix2 b i) = r b i) (hW : ∀ i k, W (ix2 i k) = W' k i) (ha : ∀ k, a (ix2 0 k) = a' k)
    (b : Fin 128) (k : Fin 100) : k0_pay2 o W a (ix2 b k) = layer (r b) W' a' k := by
  rw [classes_at]
  simp only [ho, hW, ha]
  rfl

/-- The hash codes of mixed rows. -/
theorem hash_core (o : FVec Ideal S128x128 .f32) (W : Vec Ideal S128x48 .f32) (a : Vec Ideal S1x48 .f32) (r : Fin 128 → Fin 128 → EReal)
    (W' : Fin 48 → Fin 128 → EReal) (a' : Fin 48 → EReal) (ho : ∀ b i, o (ix2 b i) = r b i) (hW : ∀ i k, W (ix2 i k) = W' k i) (ha : ∀ k, a (ix2 0 k) = a' k)
    (b : Fin 128) (k : Fin 48) : k0_pay3 o W a (ix2 b k) = Ideal.tanh (layer (r b) W' a' k) := by
  rw [hash_at]
  simp only [ho, hW, ha]
  rfl

/-- The first buffer, read after its one store. -/
theorem scratch_read (p : FVec Ideal S128x64x384 .f32) :
    View.read (Elt Ideal) scM0_0.view ((View.whole cc0_scratch0).writes (Elt Ideal) (View.whole cc0_scratch0).junk
      [⟨Rect.unit ![0, 0, 0] ![128, 64, 384] inb_S128x64x384_S128x64x384_0_0_0, p⟩]) = p := by
  show View.read (Elt Ideal) (View.whole cc0_scratch0) _ = p
  rw [View.read_writes_junk_eq_canon]
  exact View.canon_cons_unit_lit (Val := Elt Ideal) (e := .f32) (S := S128x64x384) (off := ![0, 0, 0]) _ p [] (by decide)

/-- The kernel's states are the rows' states. -/
theorem states_core (b j : Fin 128) :
    hid (fun t k => View.read (Elt Ideal) scM0_0.view ((View.whole cc0_scratch0).writes (Elt Ideal) (View.whole cc0_scratch0).junk
        [⟨Rect.unit ![0, 0, 0] ![128, 64, 384] inb_S128x64x384_S128x64x384_0_0_0, k0_pay5 (iblk m c 0 t0_0) (iblk m c 3 t0_0) (iblk m c 5 t0_0)⟩]) (ix3 b t k))
      (fun k i => k0_pay9 (iblk m c 4 t0_0) (ix2 i k)) (fun k => k0_pay8 (iblk m c 6 t0_0) (ix2 0 k)) (k0_pay7 (F := Ideal) (iblk m c 1 t0_0) (ix2 b 0)) k0_t1_loop.trips j
    = stateOf m c b j := by
  rw [scratch_read]
  have ht : k0_t1_loop.trips = 64 := by decide
  have hg : (fun t k => k0_pay5 (iblk m c 0 t0_0) (iblk m c 3 t0_0) (iblk m c 5 t0_0) (ix3 b t k))
      = fun (t : Fin 64) (k : Fin 384) => gi (fun d => m ((c : Thread nD τ).loc main_arg0) (ix3 b t d)) (fun k d => m ((c : Thread nD τ).loc main_arg2) (ix2 k d))
        (fun k => m ((c : Thread nD τ).loc main_arg4) (ix1 k)) k := by
    funext t k
    rw [inputGates_at]
    congr 1
    · exact funext fun d => block0 m c b t d
    · exact funext fun k => funext fun d => block3 m c d k
    · exact funext fun k => block5 m c k
  have hw : (fun (k : Fin 384) (i : Fin 128) => k0_pay9 (iblk m c 4 t0_0) (ix2 i k)) = fun k i => m ((c : Thread nD τ).loc main_arg3) (ix2 k i) :=
    funext fun k => funext fun i => (stateGates_at _ i k).trans (block4 m c i k)
  have hb : (fun (k : Fin 384) => k0_pay8 (iblk m c 6 t0_0) (ix2 0 k)) = fun k => m ((c : Thread nD τ).loc main_arg5) (ix1 k) :=
    funext fun k => (bias_at _ k).trans (block6 m c k)
  rw [hg, hw, hb, (lengths_at _ b).trans (block1 m c b), ht]
  rfl

variable (rx : ∀ b l d, IsReal (m ((c : Thread nD τ).loc main_arg0) (ix3 b l d))) (rq : ∀ a i, IsReal (m ((c : Thread nD τ).loc main_arg6) (ix2 a i)))
  (rk : ∀ a d, IsReal (m ((c : Thread nD τ).loc main_arg7) (ix2 a d)))

include rx rq rk

/-- The class scores the kernel leaves. -/
theorem final14 :
    (dats m 0 c).arrAt 14 (cfgs 0).N = ((fun j => layer (mixOf m c (j 0)) (fun k i => m ((c : Thread nD τ).loc main_arg9) (ix2 k i))
      (fun k => m ((c : Thread nD τ).loc main_arg10) (ix1 k)) (j 1)) : FVec Ideal S128x100 .f32) := by
  refine (dats m 0 c).arrAt_eq_of_after_last 14 t0_0 (by decide +kernel) _ fun j => ?_
  blk_simp
  rw [after0_14]
  unfold outsAt0
  frame_out
  simp only [read_unread_whole]
  idx_vars j
  refine (classes_core _ _ _ (mixOf m c) (fun k i => m ((c : Thread nD τ).loc main_arg9) (ix2 k i)) (fun k => m ((c : Thread nD τ).loc main_arg10) (ix1 k))
    (mixed_core _ _ _ _ _ _ _ _ _ _ _ _ _ _ _ rx rq rk (block0 m c) (fun b => (lengths_at _ b).trans (block1 m c b)) ?_ (block7 m c) (block8 m c) (block9 m c))
    (block10 m c) (block11 m c) _ _).trans ?_
  · intro b j
    exact (carried_at (hz := zeros_at) (hk := le_rfl) ..).trans (states_core m c b j)
  · rfl

/-- The hash codes the kernel leaves. -/
theorem final15 :
    (dats m 0 c).arrAt 15 (cfgs 0).N = ((fun j => Ideal.tanh (layer (mixOf m c (j 0)) (fun k i => m ((c : Thread nD τ).loc main_arg11) (ix2 k i))
      (fun k => m ((c : Thread nD τ).loc main_arg12) (ix1 k)) (j 1))) : FVec Ideal S128x48 .f32) := by
  refine (dats m 0 c).arrAt_eq_of_after_last 15 t0_0 (by decide +kernel) _ fun j => ?_
  blk_simp
  rw [after0_15]
  unfold outsAt0
  frame_out
  simp only [read_unread_whole]
  idx_vars j
  refine (hash_core _ _ _ (mixOf m c) (fun k i => m ((c : Thread nD τ).loc main_arg11) (ix2 k i)) (fun k => m ((c : Thread nD τ).loc main_arg12) (ix1 k))
    (mixed_core _ _ _ _ _ _ _ _ _ _ _ _ _ _ _ rx rq rk (block0 m c) (fun b => (lengths_at _ b).trans (block1 m c b)) ?_ (block7 m c) (block8 m c) (block9 m c))
    (block12 m c) (block13 m c) _ _).trans ?_
  · intro b j
    exact (carried_at (hz := zeros_at) (hk := le_rfl) ..).trans (states_core m c b j)
  · rfl

/-- The sorted weights the kernel leaves. -/
theorem final16 :
    (dats m 0 c).arrAt 16 (cfgs 0).N = ((fun j => weightOf m c (place (key fun x => m ((c : Thread nD τ).loc main_arg1) (ix1 x)) (j 0)) (j 1)) : FVec Ideal S128x64 .f32) := by
  refine (dats m 0 c).arrAt_eq_of_after_last 16 t0_0 (by decide +kernel) _ fun j => ?_
  blk_simp
  rw [after0_16]
  unfold outsAt0
  frame_out
  simp only [read_unread_whole]
  idx_vars j
  have hN : ∀ b, k0_pay7 (F := Ideal) (iblk m c 1 t0_0) (ix2 b 0) = m ((c : Thread nD τ).loc main_arg1) (ix1 b) := fun b => (lengths_at _ b).trans (block1 m c b)
  refine (sorted_at _ _ _ (fun x => (block2 m c x).trans (hN x).symm) _ _).trans ?_
  rw [funext hN]
  refine (weights_core _ _ (fun k d => m ((c : Thread nD τ).loc main_arg2) (ix2 k d)) (fun k i => m ((c : Thread nD τ).loc main_arg3) (ix2 k i))
    (fun k => m ((c : Thread nD τ).loc main_arg4) (ix1 k)) (fun k => m ((c : Thread nD τ).loc main_arg5) (ix1 k)) _ _ _ _ _ _ _ rx rq rk (block0 m c) hN ?_ (block7 m c) (block8 m c) _ _).trans ?_
  · intro b j
    exact (carried_at (hz := zeros_at) (hk := le_rfl) ..).trans (states_core m c b j)
  · rfl

end Cert.KernelIdeal.Gen

end
-- ==== Proof.RefTerms.lean ====
module

public import proofs.«01_k».proof.Proof.Gen.ReferenceIdeal.Run
public import Idealize.ShloMosaic.Lib.Pointwise

/-! The reference's three results as short compositions of named stages, each stage a plain function of arrays. -/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The positions of the sequences, longest first. -/
def ORD (n : IVec S128 32) : IVec S128 32 :=
  (Host.sort2 S128 0 comparator_i32_i32_d0 (negi n) (iotaInDim S128 32 0)).2

/-- The positions as a column of row indices, a negative one counted from the end. -/
def PICK (n : IVec S128 32) : IVec S128x1 32 :=
  broadcastInDim S128x1 ![0] bcast_S128_S128x1_0
    (select (cmpi .slt (ORD n) (broadcastInDim S128 ![] bcast_S_S128 (constantI S_ 32 0#32)))
      (addi (ORD n) (broadcastInDim S128 ![] bcast_S_S128 (constantI S_ 32 128#32))) (ORD n))

/-- The lengths, longest first. -/
def LEN (n : IVec S128 32) : IVec S128 32 := Host.gather gather_S128_S128x1_S128_n_0_n_n_0_1_1 n (PICK n)

/-- The sequences, longest first. -/
def SEQ (x : FVec Ideal S128x64x256 .f32) (n : IVec S128 32) : FVec Ideal S128x64x256 .f32 :=
  Host.gather gather_S128x64x256_S128x1_S128x64x256_12_0_n_n_0_1_164256 x (PICK n)

/-- The queries of hidden states `h`. -/
def QUERY (h Wq : FVec Ideal S128x128 .f32) : FVec Ideal S128x1x128 .f32 :=
  broadcastInDim S128x1x128 ![0, 2] bcast_S128x128_S128x1x128_0_2
    (Host.dotGeneral dot_S128x128_S128x128_S128x128_1_0_0_1_n_n none h (transpose S128x128 [1, 0] Wq transposes_S128x128_S128x128_1_0))

/-- The scaled scores of queries `q` against the keys of the sequences `s`. -/
def SCORE (q : FVec Ideal S128x1x128 .f32) (s : FVec Ideal S128x64x256 .f32) (Wk : FVec Ideal S128x256 .f32) : FVec Ideal S128x1x64 .f32 :=
  Host.divf (Host.dotGeneral dot_S128x1x128_S128x64x128_S128x1x64_2_2_1_1_0_0 none q
      (Host.dotGeneral dot_S128x64x256_S256x128_S128x64x128_2_0_01_1_n_n none s (transpose S256x128 [1, 0] Wk transposes_S128x256_S256x128_1_0)))
    (broadcastInDim S128x1x64 ![] bcast_S_S128x1x64 (Host.sqrt (constant S_ .f32 0x43000000#32)))

/-- The exponentials of the scores less their row's greatest. -/
def EXPS (d : FVec Ideal S128x1x64 .f32) : FVec Ideal S128x1x64 .f32 :=
  Host.exp (subf d (broadcastInDim S128x1x64 ![0, 1, 2] bcast_S128x1x1_S128x1x64_0_1_2 (broadcastInDim S128x1x1 ![0, 1] bcast_S128x1_S128x1x1_0_1
    (maximumf (broadcastInDim S128x1 ![] bcast_S_S128x1 (constant S_ .f32 0xFF800000#32))
      (Host.reduce FloatOps.maximumf d (constant S_ .f32 0xFF800000#32) reducesTo_S128x1x64_S128x1_d2 h_S_)))))

/-- Each row divided by its sum. -/
def NORM (e : FVec Ideal S128x1x64 .f32) : FVec Ideal S128x1x64 .f32 :=
  Host.divf e (broadcastInDim S128x1x64 ![0, 1, 2] bcast_S128x1x1_S128x1x64_0_1_2 (broadcastInDim S128x1x1 ![0, 1] bcast_S128x1_S128x1x1_0_1
    (Host.reduceAdd e (constant S_ .f32 0x00000000#32) reducesTo_S128x1x64_S128x1_d2 h_S_)))

/-- One at the positions before a sequence's length, zero at the others. -/
def MASK (l : IVec S128 32) : FVec Ideal S128x1x64 .f32 :=
  broadcastInDim S128x1x64 ![0, 2] bcast_S128x64_S128x1x64_0_2
    (uitofp .f32 (cmpi .slt (broadcastInDim S128x64 ![0, 1] bcast_S1x64_S128x64_0_1 (broadcastInDim S1x64 ![1] bcast_S64_S1x64_1 (iotaInDim S64 32 0)))
      (broadcastInDim S128x64 ![0, 1] bcast_S128x1_S128x64_0_1 (broadcastInDim S128x1 ![0] bcast_S128_S128x1_0 l))))

/-- The attention weights: the softmax, masked, and divided by its row sums again. -/
def ATT (d : FVec Ideal S128x1x64 .f32) (l : IVec S128 32) : FVec Ideal S128x1x64 .f32 :=
  NORM (mulf (NORM (EXPS d)) (MASK l))

/-- The attended values plus the query, one row per sequence. -/
def MIX (a : FVec Ideal S128x1x64 .f32) (s : FVec Ideal S128x64x256 .f32) (Wv : FVec Ideal S128x256 .f32) (q : FVec Ideal S128x1x128 .f32) :
    FVec Ideal S128x128 .f32 :=
  shapeCast S128x128 (addf (Host.dotGeneral dot_S128x1x64_S128x64x128_S128x1x128_2_1_1_2_0_0 none a
      (maximumf (Host.dotGeneral dot_S128x64x256_S256x128_S128x64x128_2_0_01_1_n_n none s (transpose S256x128 [1, 0] Wv transposes_S128x256_S256x128_1_0))
        (broadcastInDim S128x64x128 ![] bcast_S_S128x64x128 (constant S_ .f32 0x00000000#32)))) q) shapeCasts_S128x1x128_S128x128

/-- The rows put back where they came from. -/
def BACK (n : IVec S128 32) (o : FVec Ideal S128x128 .f32) : FVec Ideal S128x128 .f32 :=
  Host.scatter scatter_S128x128_S128x1_S128x128_1_0_0_1 (fun _ b => b) (broadcastInDim S128x128 ![] bcast_S_S128x128 (constant S_ .f32 0x00000000#32)) (PICK n) o

/-- The class scores of rows `o`. -/
def PRED (o : FVec Ideal S128x128 .f32) (Wp : FVec Ideal S100x128 .f32) (bp : FVec Ideal S100 .f32) : FVec Ideal S128x100 .f32 :=
  addf (Host.dotGeneral dot_S128x128_S128x100_S128x100_1_0_0_1_n_n none o (transpose S128x100 [1, 0] Wp transposes_S100x128_S128x100_1_0))
    (broadcastInDim S128x100 ![0, 1] bcast_S1x100_S128x100_0_1 (broadcastInDim S1x100 ![1] bcast_S100_S1x100_1 bp))

/-- The hash codes of rows `o`. -/
def HASH (o : FVec Ideal S128x128 .f32) (Wh : FVec Ideal S48x128 .f32) (bh : FVec Ideal S48 .f32) : FVec Ideal S128x48 .f32 :=
  Host.tanh (addf (Host.dotGeneral dot_S128x128_S128x48_S128x48_1_0_0_1_n_n none o (transpose S128x48 [1, 0] Wh transposes_S48x128_S128x48_1_0))
    (broadcastInDim S128x48 ![0, 1] bcast_S1x48_S128x48_0_1 (broadcastInDim S1x48 ![1] bcast_S48_S1x48_1 bh)))

/-- The weights of hidden states `h`. -/
def WEIGHTS (h : FVec Ideal S128x128 .f32) (x : FVec Ideal S128x64x256 .f32) (n : IVec S128 32) (Wq : FVec Ideal S128x128 .f32)
    (Wk : FVec Ideal S128x256 .f32) : FVec Ideal S128x1x64 .f32 :=
  ATT (SCORE (QUERY h Wq) (SEQ x n) Wk) (LEN n)

/-- The mixed rows of hidden states `h`. -/
def ROWS (h : FVec Ideal S128x128 .f32) (x : FVec Ideal S128x64x256 .f32) (n : IVec S128 32) (Wq : FVec Ideal S128x128 .f32)
    (Wk Wv : FVec Ideal S128x256 .f32) : FVec Ideal S128x128 .f32 :=
  MIX (WEIGHTS h x n Wq Wk) (SEQ x n) Wv (QUERY h Wq)

theorem out_main_v88_eq (V : Valuation τ sig (Elt Ideal)) : out_main_v88 V =
    PRED (BACK (V (Proc.devRef .tc main_arg1)) (ROWS (V (Proc.devRef .tc main_v19_8)) (V (Proc.devRef .tc main_arg0)) (V (Proc.devRef .tc main_arg1))
      (V (Proc.devRef .tc main_arg6)) (V (Proc.devRef .tc main_arg7)) (V (Proc.devRef .tc main_arg8))))
      (V (Proc.devRef .tc main_arg9)) (V (Proc.devRef .tc main_arg10)) := rfl

theorem out_main_v94_eq (V : Valuation τ sig (Elt Ideal)) : out_main_v94 V =
    HASH (BACK (V (Proc.devRef .tc main_arg1)) (ROWS (V (Proc.devRef .tc main_v19_8)) (V (Proc.devRef .tc main_arg0)) (V (Proc.devRef .tc main_arg1))
      (V (Proc.devRef .tc main_arg6)) (V (Proc.devRef .tc main_arg7)) (V (Proc.devRef .tc main_arg8))))
      (V (Proc.devRef .tc main_arg11)) (V (Proc.devRef .tc main_arg12)) := rfl

theorem out_main_v75_eq (V : Valuation τ sig (Elt Ideal)) : out_main_v75 V =
    shapeCast S128x64 (WEIGHTS (V (Proc.devRef .tc main_v19_8)) (V (Proc.devRef .tc main_arg0)) (V (Proc.devRef .tc main_arg1))
      (V (Proc.devRef .tc main_arg6)) (V (Proc.devRef .tc main_arg7))) shapeCasts_S128x1x64_S128x64 := rfl

end Cert.ReferenceIdeal.Value

end
-- ==== Proof.RefStep.lean ====
module

public import proofs.«01_k».proof.Proof.RefTerms
public import proofs.«01_k».proof.Proof.Spec

/-! One trip of the reference's recurrence, as plain functions of arrays and at an element. -/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Row

/-- The input's part of the gates at trip `k`. -/
def GI (xs : FVec Ideal S64x128x256 .f32) (k : IVec S_ 32) (W : FVec Ideal S384x256 .f32) (b : FVec Ideal S384 .f32) : FVec Ideal S128x384 .f32 :=
  addf (Host.dotGeneral dot_S128x256_S256x384_S128x384_1_0_0_1_n_n none
      (shapeCast S128x256 (Host.dynamicSlice S1x128x256 xs
        (fun i => ((![k, constantI S_ 32 0#32, constantI S_ 32 0#32] : Fin 3 → IVec S_ 32) i (Shape.Idx.first h_S_)).toInt)
        sliceFits_S64x128x256_S1x128x256) shapeCasts_S1x128x256_S128x256)
      (transpose S256x384 [1, 0] W transposes_S384x256_S256x384_1_0))
    (broadcastInDim S128x384 ![0, 1] bcast_S1x384_S128x384_0_1 (broadcastInDim S1x384 ![1] bcast_S384_S1x384_1 b))

/-- The state's part of the gates. -/
def GH (h : FVec Ideal S128x128 .f32) (W : FVec Ideal S384x128 .f32) (b : FVec Ideal S384 .f32) : FVec Ideal S128x384 .f32 :=
  addf (Host.dotGeneral dot_S128x128_S128x384_S128x384_1_0_0_1_n_n none h (transpose S128x384 [1, 0] W transposes_S384x128_S128x384_1_0))
    (broadcastInDim S128x384 ![0, 1] bcast_S1x384_S128x384_0_1 (broadcastInDim S1x384 ![1] bcast_S384_S1x384_1 b))

/-- A gate: the logistic of a sum, spelt out. -/
def GATE (u v : FVec Ideal S128x128 .f32) : FVec Ideal S128x128 .f32 :=
  Host.divf (broadcastInDim S128x128 ![] bcast_S_S128x128 (constant S_ .f32 0x3F800000#32))
    (addf (broadcastInDim S128x128 ![] bcast_S_S128x128 (constant S_ .f32 0x3F800000#32)) (Host.exp (Host.negf (addf u v))))

/-- The new state from the trip's time. -/
def CHOOSE (gi gh : FVec Ideal S128x384 .f32) (u : IVec S_ 32) (n : IVec S128 32) (h : FVec Ideal S128x128 .f32) : FVec Ideal S128x128 .f32 :=
  select (broadcastInDim S128x128 ![0, 1] bcast_S128x1_S128x128_0_1 (broadcastInDim S128x1 ![0] bcast_S128_S128x1_0
      (cmpi .slt (broadcastInDim S128 ![] bcast_S_S128 u) n)))
    (addf
      (mulf (subf (broadcastInDim S128x128 ![] bcast_S_S128x128 (constant S_ .f32 0x3F800000#32))
          (GATE (extractStridedSlice S128x128 ![0, 128] gi slices_S128x384_S128x128_0_128) (extractStridedSlice S128x128 ![0, 128] gh slices_S128x384_S128x128_0_128)))
        (Host.tanh (addf (extractStridedSlice S128x128 ![0, 256] gi slices_S128x384_S128x128_0_256)
          (mulf (GATE (extractStridedSlice S128x128 ![0, 0] gi slices_S128x384_S128x128_0_0) (extractStridedSlice S128x128 ![0, 0] gh slices_S128x384_S128x128_0_0))
            (extractStridedSlice S128x128 ![0, 256] gh slices_S128x384_S128x128_0_256)))))
      (mulf (GATE (extractStridedSlice S128x128 ![0, 128] gi slices_S128x384_S128x128_0_128) (extractStridedSlice S128x128 ![0, 128] gh slices_S128x384_S128x128_0_128)) h))
    h

/-- The new state of trip `k`: the cell's where the sequence is longer than the trip's time, the old state elsewhere. -/
def STATE (gi gh : FVec Ideal S128x384 .f32) (ts : IVec S64 32) (k : IVec S_ 32) (n : IVec S128 32) (h : FVec Ideal S128x128 .f32) : FVec Ideal S128x128 .f32 :=
  CHOOSE gi gh (shapeCast S_ (Host.dynamicSlice S1 ts
    (fun i => ((![k] : Fin 1 → IVec S_ 32) i (Shape.Idx.first h_S_)).toInt) sliceFits_S64_S1) shapeCasts_S1_S_) n h

theorem step_eq (V : Valuation τ sig (Elt Ideal)) : step_main_v19_8 V =
    STATE (GI (V (Proc.devRef .tc main_v19_0)) (V (Proc.devRef .tc main_v19_7)) (V (Proc.devRef .tc main_v19_2)) (V (Proc.devRef .tc main_v19_3)))
      (GH (V (Proc.devRef .tc main_v19_8)) (V (Proc.devRef .tc main_v19_4)) (V (Proc.devRef .tc main_v19_5)))
      (V (Proc.devRef .tc main_v19_1)) (V (Proc.devRef .tc main_v19_7)) (V (Proc.devRef .tc main_v19_6)) (V (Proc.devRef .tc main_v19_8)) := rfl

/-- The counter of trip `t` read signed. -/
theorem counter_toInt (t : Fin 64) : (Scf.iv 0#32 1#32 t.val).toInt = (t.val : ℤ) := by
  revert t
  decide

/-- A slab of the sequences in time order, cut out at time `t`. -/
theorem slab_at (xs : FVec Ideal S64x128x256 .f32) (st : Fin 3 → ℤ) (t : Fin 64) (h0 : st 0 = t.val) (h1 : st 1 = 0) (h2 : st 2 = 0) (r : Fin 128) (d : Fin 256) :
    shapeCast S128x256 (Host.dynamicSlice S1x128x256 xs st sliceFits_S64x128x256_S1x128x256) shapeCasts_S1x128x256_S128x256 (ix2 r d) = xs (ix3 t r d) := by
  have c0 : Host.clampedStart S64x128x256 S1x128x256 rfl st 0 = t.val :=
    Host.clampedStart_of_le (s := S64x128x256) (t := S1x128x256) _ st 0 t.val h0 (by have := t.isLt; show t.val + 1 ≤ 64; omega)
  have c1 : Host.clampedStart S64x128x256 S1x128x256 rfl st 1 = 0 := Host.clampedStart_of_le (s := S64x128x256) (t := S1x128x256) _ st 1 0 h1 (by decide)
  have c2 : Host.clampedStart S64x128x256 S1x128x256 rfl st 2 = 0 := Host.clampedStart_of_le (s := S64x128x256) (t := S1x128x256) _ st 2 0 h2 (by decide)
  pointwise
  simp only [c0, c1, c2, Nat.zero_add]

/-- The time of a trip, cut out of the times. -/
theorem time_at (ts : IVec S64 32) (st : Fin 1 → ℤ) (t : Fin 64) (h0 : st 0 = t.val) :
    shapeCast S_ (Host.dynamicSlice S1 ts st sliceFits_S64_S1) shapeCasts_S1_S_ ix0 = ts (ix1 t) := by
  have c0 : Host.clampedStart S64 S1 rfl st 0 = t.val :=
    Host.clampedStart_of_le (s := S64) (t := S1) _ st 0 t.val h0 (by have := t.isLt; show t.val + 1 ≤ 64; omega)
  pointwise
  simp only [c0]

/-- The input's part of the gates from one slab. -/
def LIN (x : FVec Ideal S128x256 .f32) (W : FVec Ideal S384x256 .f32) (b : FVec Ideal S384 .f32) : FVec Ideal S128x384 .f32 :=
  addf (Host.dotGeneral dot_S128x256_S256x384_S128x384_1_0_0_1_n_n none x (transpose S256x384 [1, 0] W transposes_S384x256_S256x384_1_0))
    (broadcastInDim S128x384 ![0, 1] bcast_S1x384_S128x384_0_1 (broadcastInDim S1x384 ![1] bcast_S384_S1x384_1 b))

theorem LIN_at (x : FVec Ideal S128x256 .f32) (W : FVec Ideal S384x256 .f32) (b : FVec Ideal S384 .f32) (r : Fin 128) (k : Fin 384) :
    LIN x W b (ix2 r k) = gi (fun d => x (ix2 r d)) (fun k d => W (ix2 k d)) (fun k => b (ix1 k)) k := by
  pointwise [LIN]
  rfl

/-- The starts of trip `t`'s slab. -/
theorem starts_at (t : Fin 64) (i : S_.Idx) :
    ((![fun _ => Scf.iv 0#32 1#32 t.val, constantI S_ 32 0#32, constantI S_ 32 0#32] : Fin 3 → IVec S_ 32) 0 i).toInt = t.val
      ∧ ((![fun _ => Scf.iv 0#32 1#32 t.val, constantI S_ 32 0#32, constantI S_ 32 0#32] : Fin 3 → IVec S_ 32) 1 i).toInt = 0
      ∧ ((![fun _ => Scf.iv 0#32 1#32 t.val, constantI S_ 32 0#32, constantI S_ 32 0#32] : Fin 3 → IVec S_ 32) 2 i).toInt = 0 := by
  refine ⟨?_, ?_, ?_⟩
  · rw [Matrix.cons_val_zero]
    exact counter_toInt t
  · rw [Matrix.cons_val_one]
    rfl
  · rfl

theorem GI_at (xs : FVec Ideal S64x128x256 .f32) (W : FVec Ideal S384x256 .f32) (b : FVec Ideal S384 .f32) (t : Fin 64) (r : Fin 128) (k : Fin 384) :
    GI xs (fun _ => Scf.iv 0#32 1#32 t.val) W b (ix2 r k) = gi (fun d => xs (ix3 t r d)) (fun k d => W (ix2 k d)) (fun k => b (ix1 k)) k := by
  obtain ⟨h0, h1, h2⟩ := starts_at t (Shape.Idx.first h_S_)
  refine (LIN_at _ W b r k).trans ?_
  exact congrArg (fun x => gi x _ _ k) (funext fun d => slab_at xs _ t h0 h1 h2 r d)

theorem GH_at (h : FVec Ideal S128x128 .f32) (W : FVec Ideal S384x128 .f32) (b : FVec Ideal S384 .f32) (r : Fin 128) (k : Fin 384) :
    GH h W b (ix2 r k) = gh (fun i => h (ix2 r i)) (fun k i => W (ix2 k i)) (fun k => b (ix1 k)) k := by
  pointwise [GH]
  rfl

theorem CHOOSE_at (g g' : FVec Ideal S128x384 .f32) (u : IVec S_ 32) (n : IVec S128 32) (h : FVec Ideal S128x128 .f32) (r j : Fin 128) :
    CHOOSE g g' u n h (ix2 r j)
      = Scalar.select (IntOp.cmpi .slt (u ix0) (n (ix1 r))) (cell (fun k => g (ix2 r k)) (fun k => g' (ix2 r k)) (h (ix2 r j)) j) (h (ix2 r j)) := by
  pointwise [CHOOSE, GATE]
  rfl

theorem STATE_at (g g' : FVec Ideal S128x384 .f32) (ts : IVec S64 32) (hts : ∀ t : Fin 64, ts (ix1 t) = Scf.iv 0#32 1#32 t.val) (n : IVec S128 32)
    (h : FVec Ideal S128x128 .f32) (t : Fin 64) (r j : Fin 128) :
    STATE g g' ts (fun _ => Scf.iv 0#32 1#32 t.val) n h (ix2 r j)
      = Scalar.select (IntOp.cmpi .slt (Scf.iv 0#32 1#32 t.val) (n (ix1 r)))
          (cell (fun k => g (ix2 r k)) (fun k => g' (ix2 r k)) (h (ix2 r j)) j) (h (ix2 r j)) := by
  have h0 : ((![fun _ => Scf.iv 0#32 1#32 t.val] : Fin 1 → IVec S_ 32) 0 (Shape.Idx.first h_S_)).toInt = t.val := by
    rw [Matrix.cons_val_zero]
    exact counter_toInt t
  unfold STATE
  rw [CHOOSE_at, time_at ts _ t h0, hts]

end Cert.ReferenceIdeal.Value

end
-- ==== Proof.RefSort.lean ====
module

public import proofs.«01_k».proof.Proof.RefTerms
public import proofs.«01_k».proof.Proof.Sorting
public import Idealize.ShloMosaic.Lib.Affine
public import Idealize.ShloMosaic.Lib.Routing.OpsSet
public import Idealize.ShloMosaic.Lib.Routing.OpsPair
public import Idealize.ShloMosaic.Lib.Routing.OpsOne

/-! The reference's sort by length, and what its gathers and its scatter read. -/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Row

/-- The position at place `r` when the sequences are sorted, longest first. -/
def seat (n : IVec S128 32) (r : Fin 128) : Fin 128 := place (key fun a => n (ix1 a)) r

/-- The second operand of the sort at place `r`: its element at the position the order puts there. -/
theorem sorted_second (x y : S128.Idx → BitVec 32) (lt : Fin 128 → Fin 128 → Bool)
    (h : ∀ a b : Fin 128, (comparator_i32_i32_d0 (x (ix1 a), y (ix1 a)) (x (ix1 b), y (ix1 b)) == 1#1) = lt a b) (r : Fin 128) :
    (Host.sort2 S128 0 comparator_i32_i32_d0 x y).2 (ix1 r) = y (ix1 (sortedFrom lt r)) := by
  have hal : ∀ k : Fin 128, (ix1 r : S128.Idx).along (0 : Fin 1) k = ix1 k := fun k => by
    funext a
    match a with
    | ⟨0, _⟩ => rfl
  have hlt : (fun k k' : Fin 128 => comparator_i32_i32_d0 (x ((ix1 r : S128.Idx).along (0 : Fin 1) k), y ((ix1 r : S128.Idx).along (0 : Fin 1) k))
      (x ((ix1 r : S128.Idx).along (0 : Fin 1) k'), y ((ix1 r : S128.Idx).along (0 : Fin 1) k')) == 1#1) = lt :=
    funext fun k => funext fun k' => by
      rw [hal k, hal k']
      exact h k k'
  unfold Host.sort2
  rw [dif_pos (by decide : 0 < S128.rank)]
  show y ((ix1 r : S128.Idx).along (0 : Fin 1) (sortedFrom (fun k k' : Fin 128 => comparator_i32_i32_d0
    (x ((ix1 r : S128.Idx).along (0 : Fin 1) k), y ((ix1 r : S128.Idx).along (0 : Fin 1) k))
    (x ((ix1 r : S128.Idx).along (0 : Fin 1) k'), y ((ix1 r : S128.Idx).along (0 : Fin 1) k')) == 1#1) r)) = _
  rw [hlt]
  exact congrArg y (hal _)

/-- The sorted positions, where every length has a negative. -/
theorem ORD_at (n : IVec S128 32) (hn : ∀ a, n (ix1 a) ≠ BitVec.intMin 32) (r : Fin 128) : ORD n (ix1 r) = BitVec.ofNat 32 (seat n r).val := by
  unfold ORD seat place
  rw [sorted_second _ _ (fun a b => decide (key (fun a => n (ix1 a)) a < key (fun a => n (ix1 a)) b))]
  · rfl
  · intro a b
    show (IntOp.cmpi .slt (-(n (ix1 a))) (-(n (ix1 b))) == 1#1) = _
    rw [Bool.eq_iff_iff, beq_iff_eq, IntOp.cmpi_slt, decide_eq_true_iff, BitVec.toInt_neg_of_ne_intMin (hn a), BitVec.toInt_neg_of_ne_intMin (hn b)]
    rfl

/-- The row index gathered at place `r`. -/
theorem PICK_at (n : IVec S128 32) (hn : ∀ a, n (ix1 a) ≠ BitVec.intMin 32) (r : Fin 128) : PICK n (ix2 r 0) = BitVec.ofNat 32 (seat n r).val := by
  have h : PICK n (ix2 r 0) = Scalar.select (IntOp.cmpi .slt (ORD n (ix1 r)) 0#32) (IntOp.addi (ORD n (ix1 r)) 128#32) (ORD n (ix1 r)) := by
    pointwise [PICK]
  rw [h, ORD_at n hn]
  refine Routing.wrap_of_lt _ _ ?_
  have := (seat n r).isLt
  rw [BitVec.toNat_ofNat]
  omega

/-- The length at place `r`. -/
theorem LEN_at (n : IVec S128 32) (hn : ∀ a, n (ix1 a) ≠ BitVec.intMin 32) (r : Fin 128) : LEN n (ix1 r) = n (ix1 (seat n r)) :=
  Routing.gather_take1 gather_S128_S128x1_S128_n_0_n_n_0_1_1 rfl rfl rfl rfl n (PICK n) r (seat n r) (PICK_at n hn r) (by norm_num)

/-- The sequence at place `r`. -/
theorem SEQ_at (x : FVec Ideal S128x64x256 .f32) (n : IVec S128 32) (hn : ∀ a, n (ix1 a) ≠ BitVec.intMin 32) (r : Fin 128) (t : Fin 64) (d : Fin 256) :
    SEQ x n (ix3 r t d) = x (ix3 (seat n r) t d) := by
  have hp := PICK_at n hn r
  have hl := (seat n r).isLt
  unfold SEQ Host.gather
  refine congrArg x (funext fun a => Fin.ext ?_)
  set D := gather_S128x64x256_S128x1_S128x64x256_12_0_n_n_0_1_164256 with hD
  match a with
  | ⟨0, _⟩ =>
    have hm : (0 : Fin 3) ∈ D.startIndexMap := by decide
    have hsi : D.siIdx (ix3 r t d) ⟨D.startIndexMap.idxOf 0, List.idxOf_lt_length_iff.2 hm⟩ = ix2 r (0 : Fin 1) := by
      funext b
      match b with
      | ⟨0, _⟩ => rfl
      | ⟨1, _⟩ => rfl
    show D.start (ix3 r t d) (PICK n) 0 + D.batchCoord (ix3 r t d) 0 + D.offCoord (ix3 r t d) 0 = (seat n r).val
    have hb : D.batchCoord (ix3 r t d) 0 = 0 := rfl
    have ho : D.offCoord (ix3 r t d) 0 = 0 := rfl
    rw [hb, ho]
    unfold GatherDims.start
    rw [dif_pos hm, hsi, hp, StableHlo.Predicate.toInt_ofNat_small _ (by omega)]
    show min _ (128 - 1) + 0 + 0 = _
    omega
  | ⟨1, _⟩ =>
    show D.start (ix3 r t d) (PICK n) 1 + D.batchCoord (ix3 r t d) 1 + D.offCoord (ix3 r t d) 1 = t.val
    have hs : D.start (ix3 r t d) (PICK n) 1 = 0 := rfl
    have hb : D.batchCoord (ix3 r t d) 1 = 0 := rfl
    have ho : D.offCoord (ix3 r t d) 1 = t.val := rfl
    rw [hs, hb, ho]
    omega
  | ⟨2, _⟩ =>
    show D.start (ix3 r t d) (PICK n) 2 + D.batchCoord (ix3 r t d) 2 + D.offCoord (ix3 r t d) 2 = d.val
    have hs : D.start (ix3 r t d) (PICK n) 2 = 0 := rfl
    have hb : D.batchCoord (ix3 r t d) 2 = 0 := rfl
    have ho : D.offCoord (ix3 r t d) 2 = d.val := rfl
    rw [hs, hb, ho]
    omega

/-- The rows put back: the row at the place of position `b` comes to `b`. -/
theorem BACK_at (n : IVec S128 32) (hn : ∀ a, n (ix1 a) ≠ BitVec.intMin 32) (o : FVec Ideal S128x128 .f32) (r j : Fin 128) :
    BACK n o (ix2 (seat n r) j) = o (ix2 r j) := by
  set D := scatter_S128x128_S128x1_S128x128_1_0_0_1 with hD
  have lands : ∀ (r' j' b k : Fin 128), D.resultIdx? (ix2 r' j') (PICK n) = some (ix2 b k) ↔ seat n r' = b ∧ j' = k := fun r' j' b k => by
    have hp := PICK_at n hn r'
    have hl := (seat n r').isLt
    have hm : (0 : Fin 2) ∈ D.scatterDimsToOperandDims := by decide
    have hsi : D.siIdx (ix2 r' j') ⟨D.scatterDimsToOperandDims.idxOf 0, List.idxOf_lt_length_iff.2 hm⟩ = ix2 r' (0 : Fin 1) := by
      funext b
      match b with
      | ⟨0, _⟩ => rfl
      | ⟨1, _⟩ => rfl
    have h0 : D.start (ix2 r' j') (PICK n) 0 = ((seat n r').val : ℤ) := by
      unfold ScatterDims.start
      rw [dif_pos hm, hsi, hp, StableHlo.Predicate.toInt_ofNat_small _ (by omega)]
    have h1 : D.start (ix2 r' j') (PICK n) 1 = 0 := rfl
    have w0 : D.window (ix2 r' j') 0 = 0 := rfl
    have w1 : D.window (ix2 r' j') 1 = j'.val := rfl
    refine (Routing.resultIdx?_ix2 D (ix2 r' j') (PICK n) b k).trans ?_
    rw [h0, h1, w0, w1, Fin.ext_iff, Fin.ext_iff]
    omega
  refine Routing.scatter_set_hit D _ (PICK n) o _ _ (fun k hk => ?_) (ix2 r j) ((lands r j _ j).2 ⟨rfl, rfl⟩)
  idx_vars k
  obtain ⟨h1, h2⟩ := (lands _ _ _ _).1 hk
  rw [(place_bijective _).1 h1, h2]

end Cert.ReferenceIdeal.Value

end
-- ==== Proof.RefLoop.lean ====
module

public import proofs.«01_k».proof.Proof.RefStep
public import proofs.«01_k».proof.Proof.RefSort

/-! The reference's loop: after its trips the state of row `r` is the recurrence of the sequence at place `r`. -/

@[expose] public section

set_option maxRecDepth 16384

noncomputable section

namespace Cert.ReferenceIdeal.Value

open Idealize.ShloMosaic Idealize.ShloMosaic.TcCoe Idealize.SL.Sem
open Idealize.ShloMosaic.StableHlo
open Cert.ReferenceIdeal Cert.ReferenceIdeal.Gen Cert.Row

variable (m : (ℓ : Loc nD τ sig) → Buf (Elt Ideal) ℓ) (c : Dev nD)

theorem entry_0 : entryContents preI m c (Proc.devRef .tc main_v19_0)
    = transpose S64x128x256 [1, 0, 2] (SEQ (m ((c.tc : Thread nD τ).loc main_arg0)) (m ((c.tc : Thread nD τ).loc main_arg1))) transposes_S128x64x256_S64x128x256_1_0_2 := by
  simp only [entryContents, afterL_cons, afterL_nil]
  after_reads_simp
  rfl

theorem entry_1 : entryContents preI m c (Proc.devRef .tc main_v19_1) = iotaInDim S64 32 0 := by
  simp only [entryContents, afterL_cons, afterL_nil]
  after_reads_simp
  rfl

theorem entry_2 : entryContents preI m c (Proc.devRef .tc main_v19_2) = m ((c.tc : Thread nD τ).loc main_arg2) := by
  simp only [entryContents, afterL_cons, afterL_nil]
  after_reads_simp
  rfl

theorem entry_3 : entryContents preI m c (Proc.devRef .tc main_v19_3) = m ((c.tc : Thread nD τ).loc main_arg4) := by
  simp only [entryContents, afterL_cons, afterL_nil]
  after_reads_simp
  rfl

theorem entry_4 : entryContents preI m c (Proc.devRef .tc main_v19_4) = m ((c.tc : Thread nD τ).loc main_arg3) := by
  simp only [entryContents, afterL_cons, afterL_nil]
  after_reads_simp
  rfl

theorem entry_5 : entryContents preI m c (Proc.devRef .tc main_v19_5) = m ((c.tc : Thread nD τ).loc main_arg5) := by
  simp only [entryContents, afterL_cons, afterL_nil]
  after_reads_simp
  rfl

theorem entry_6 : entryContents preI m c (Proc.devRef .tc main_v19_6) = LEN (m ((c.tc : Thread nD τ).loc main_arg1)) := by
  simp only [entryContents, afterL_cons, afterL_nil]
  after_reads_simp
  rfl

theorem entry_8 : entryContents preI m c (Proc.devRef .tc main_v19_8)
    = (broadcastInDim S128x128 ![] bcast_S_S128x128 (constant S_ .f32 0x00000000#32) : FVec Ideal S128x128 .f32) := by
  simp only [entryContents, afterL_cons, afterL_nil]
  after_reads_simp
  rfl

/-- What the loop carries unchanged. -/
theorem kept (V : Valuation τ sig (Elt Ideal)) (k : ℕ) :
    (STEP^[k] V) (Proc.devRef .tc main_v19_0) = V (Proc.devRef .tc main_v19_0) ∧ (STEP^[k] V) (Proc.devRef .tc main_v19_1) = V (Proc.devRef .tc main_v19_1)
      ∧ (STEP^[k] V) (Proc.devRef .tc main_v19_2) = V (Proc.devRef .tc main_v19_2) ∧ (STEP^[k] V) (Proc.devRef .tc main_v19_3) = V (Proc.devRef .tc main_v19_3)
      ∧ (STEP^[k] V) (Proc.devRef .tc main_v19_4) = V (Proc.devRef .tc main_v19_4) ∧ (STEP^[k] V) (Proc.devRef .tc main_v19_5) = V (Proc.devRef .tc main_v19_5)
      ∧ (STEP^[k] V) (Proc.devRef .tc main_v19_6) = V (Proc.devRef .tc main_v19_6) := by
  induction k with
  | zero => exact ⟨rfl, rfl, rfl, rfl, rfl, rfl, rfl⟩
  | succ k ih =>
    rw [Function.iterate_succ_apply', STEP_main_v19_0, STEP_main_v19_1, STEP_main_v19_2, STEP_main_v19_3, STEP_main_v19_4, STEP_main_v19_5, STEP_main_v19_6]
    exact ih

/-- The counter before trip `k`. -/
theorem counter (k : ℕ) : (STEP^[k] (entryContents preI m c)) (Proc.devRef .tc main_v19_7) = fun _ => Scf.iv 0#32 1#32 k :=
  (atK_agree m c k main_v19_7 (by decide)).symm.trans (atK_ctr m c k)

/-- The state after `k` trips. -/
theorem state_at (hn : ∀ a, (m ((c.tc : Thread nD τ).loc main_arg1) : IVec S128 32) (ix1 a) ≠ BitVec.intMin 32) (k : ℕ) (hk : k ≤ 64) (r j : Fin 128) :
    ((STEP^[k] (entryContents preI m c)) (Proc.devRef .tc main_v19_8) : FVec Ideal S128x128 .f32) (ix2 r j)
      = hid (fun t k => gi (fun d => m ((c.tc : Thread nD τ).loc main_arg0) (ix3 (seat (m ((c.tc : Thread nD τ).loc main_arg1)) r) t d))
            (fun k d => m ((c.tc : Thread nD τ).loc main_arg2) (ix2 k d)) (fun k => m ((c.tc : Thread nD τ).loc main_arg4) (ix1 k)) k)
          (fun k i => m ((c.tc : Thread nD τ).loc main_arg3) (ix2 k i)) (fun k => m ((c.tc : Thread nD τ).loc main_arg5) (ix1 k))
          (m ((c.tc : Thread nD τ).loc main_arg1) (ix1 (seat (m ((c.tc : Thread nD τ).loc main_arg1)) r))) k j := by
  induction k generalizing j with
  | zero =>
    show (entryContents preI m c (Proc.devRef .tc main_v19_8) : FVec Ideal S128x128 .f32) (ix2 r j) = (0 : EReal)
    rw [entry_8]
    pointwise
  | succ k ih =>
    have hk' : k < 64 := hk
    obtain ⟨e0, e1, e2, e3, e4, e5, e6⟩ := kept (entryContents preI m c) k
    rw [Function.iterate_succ_apply', STEP_main_v19_8, step_eq, e0, e1, e2, e3, e4, e5, e6, counter m c k, entry_0, entry_1, entry_2, entry_3, entry_4, entry_5, entry_6]
    have ht : Fin.ofNat 64 k = (⟨k, hk'⟩ : Fin 64) := Fin.ext (Nat.mod_eq_of_lt hk')
    have hiota : ∀ t : Fin 64, iotaInDim S64 32 0 (ix1 t) = Scf.iv 0#32 1#32 t.val := fun t => by
      show BitVec.ofNat 32 t.val = _
      simp [Scf.iv]
    refine (STATE_at _ _ _ hiota _ _ ⟨k, hk'⟩ r j).trans ?_
    have hi := fun s => ih (Nat.le_of_lt hk') s
    rw [LEN_at _ hn]
    unfold hid
    simp only [ht, hi]
    refine congrArg (fun f => Scalar.select _ f _) ?_
    refine congrArg₂ (fun u v => cell u v _ j) (funext fun q => ?_) (funext fun q => ?_)
    · refine (GI_at _ _ _ ⟨k, hk'⟩ r q).trans (congrArg (fun f => gi f _ _ q) (funext fun d => ?_))
      refine Eq.trans ?_ (SEQ_at _ _ hn r ⟨k, hk'⟩ d)
      pointwise
    · refine (GH_at _ _ _ r q).trans (congrArg (fun f => gh f _ _ q) (funext fun i => hi i))

end Cert.ReferenceIdeal.Value

end
-- ==== Proof.RefValue.lean ====
module

public import proofs.«01_k».proof.Proof.RefLoop

/-! The reference's rows: the weights and the mixed row at place `r` are those of the sequence there, and the results put the mixed rows back. -/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Row

theorem QUERY_at (h Wq : FVec Ideal S128x128 .f32) (r a : Fin 128) :
    QUERY h Wq (ix3 r 0 a) = query (fun i => h (ix2 r i)) (fun a i => Wq (ix2 a i)) a := by
  pointwise [QUERY]
  rfl

theorem SCORE_at (q : FVec Ideal S128x1x128 .f32) (s : FVec Ideal S128x64x256 .f32) (Wk : FVec Ideal S128x256 .f32) (r : Fin 128) (l : Fin 64) :
    SCORE q s Wk (ix3 r 0 l) = score (fun l d => s (ix3 r l d)) (fun a => q (ix3 r 0 a)) (fun a d => Wk (ix2 a d)) l := by
  pointwise [SCORE]
  rfl

theorem EXPS_at (d : FVec Ideal S128x1x64 .f32) (r : Fin 128) (l : Fin 64) : EXPS d (ix3 r 0 l) = expo (fun l => d (ix3 r 0 l)) l := by
  pointwise [EXPS]
  unfold expo
  rw [ofBits_neg_inf, max_eq_right bot_le]

theorem NORM_at (e : FVec Ideal S128x1x64 .f32) (r : Fin 128) (l : Fin 64) : NORM e (ix3 r 0 l) = Ideal.div (e (ix3 r 0 l)) (∑ y, e (ix3 r 0 y)) := by
  pointwise [NORM]

theorem MASK_at (n : IVec S128 32) (r : Fin 128) (l : Fin 64) :
    MASK n (ix3 r 0 l) = (((IntOp.cmpi .slt (BitVec.ofNat 32 l.val) (n (ix1 r))).toNat : ℝ) : EReal) := by
  pointwise [MASK]
  rfl

theorem ATT_at (d : FVec Ideal S128x1x64 .f32) (n : IVec S128 32) (r : Fin 128) (hd : ∀ l, IsReal (d (ix3 r 0 l))) (l : Fin 64) :
    ATT d n (ix3 r 0 l) = weight (fun l => d (ix3 r 0 l)) (n (ix1 r)) l := by
  have hm : ∀ y, mulf (NORM (EXPS d)) (MASK n) (ix3 r 0 y) = Ideal.div (expo (fun l => d (ix3 r 0 l)) y) (∑ z, expo (fun l => d (ix3 r 0 l)) z)
      * (((IntOp.cmpi .slt (BitVec.ofNat 32 y.val) (n (ix1 r))).toNat : ℝ) : EReal) := fun y => by
    show NORM (EXPS d) (ix3 r 0 y) * MASK n (ix3 r 0 y) = _
    simp only [NORM_at, MASK_at, EXPS_at]
  unfold ATT
  rw [NORM_at]
  simp only [hm]
  refine renorm (expo fun l => d (ix3 r 0 l)) (fun y => exp_pos ?_) (fun y => IntOp.cmpi .slt (BitVec.ofNat 32 y.val) (n (ix1 r))) l
  rw [ofBits_neg_inf]
  exact (hd y).sub (isReal_fold_max _ hd)

theorem MIX_at (a : FVec Ideal S128x1x64 .f32) (s : FVec Ideal S128x64x256 .f32) (Wv : FVec Ideal S128x256 .f32) (q : FVec Ideal S128x1x128 .f32) (r j : Fin 128) :
    MIX a s Wv q (ix2 r j) = mix (fun l => a (ix3 r 0 l)) (fun l d => s (ix3 r l d)) (fun a d => Wv (ix2 a d)) (fun a => q (ix3 r 0 a)) j := by
  pointwise [MIX]
  rfl

theorem PRED_at (o : FVec Ideal S128x128 .f32) (Wp : FVec Ideal S100x128 .f32) (bp : FVec Ideal S100 .f32) (b : Fin 128) (k : Fin 100) :
    PRED o Wp bp (ix2 b k) = layer (fun i => o (ix2 b i)) (fun k i => Wp (ix2 k i)) (fun k => bp (ix1 k)) k := by
  pointwise [PRED]
  rfl

theorem HASH_at (o : FVec Ideal S128x128 .f32) (Wh : FVec Ideal S48x128 .f32) (bh : FVec Ideal S48 .f32) (b : Fin 128) (k : Fin 48) :
    HASH o Wh bh (ix2 b k) = Ideal.tanh (layer (fun i => o (ix2 b i)) (fun k i => Wh (ix2 k i)) (fun k => bh (ix1 k)) k) := by
  pointwise [HASH]
  rfl

section Rows

variable (h : FVec Ideal S128x128 .f32) (x : FVec Ideal S128x64x256 .f32) (n : IVec S128 32) (Wih : FVec Ideal S384x256 .f32) (Whh : FVec Ideal S384x128 .f32)
  (bih bhh : FVec Ideal S384 .f32) (Wq : FVec Ideal S128x128 .f32) (Wk Wv : FVec Ideal S128x256 .f32)
  (hn : ∀ a, n (ix1 a) ≠ BitVec.intMin 32)
  (rx : ∀ b l d, IsReal (x (ix3 b l d))) (rq : ∀ a i, IsReal (Wq (ix2 a i))) (rk : ∀ a d, IsReal (Wk (ix2 a d)))
  (hh : ∀ r j, h (ix2 r j) = rowState (fun l d => x (ix3 (seat n r) l d)) (n (ix1 (seat n r))) (fun k d => Wih (ix2 k d)) (fun k i => Whh (ix2 k i))
    (fun k => bih (ix1 k)) (fun k => bhh (ix1 k)) j)

include hn rx rq rk hh

/-- The weights at place `r`. -/
theorem WEIGHTS_at (r : Fin 128) (l : Fin 64) : WEIGHTS h x n Wq Wk (ix3 r 0 l)
    = rowWeight (fun l d => x (ix3 (seat n r) l d)) (n (ix1 (seat n r))) (fun k d => Wih (ix2 k d)) (fun k i => Whh (ix2 k i))
        (fun k => bih (ix1 k)) (fun k => bhh (ix1 k)) (fun a i => Wq (ix2 a i)) (fun a d => Wk (ix2 a d)) l := by
  have hs : ∀ l, SCORE (QUERY h Wq) (SEQ x n) Wk (ix3 r 0 l) = score (fun l d => x (ix3 (seat n r) l d))
      (query (rowState (fun l d => x (ix3 (seat n r) l d)) (n (ix1 (seat n r))) (fun k d => Wih (ix2 k d)) (fun k i => Whh (ix2 k i))
        (fun k => bih (ix1 k)) (fun k => bhh (ix1 k))) (fun a i => Wq (ix2 a i))) (fun a d => Wk (ix2 a d)) l := fun l => by
    rw [SCORE_at]
    simp only [SEQ_at x n hn, QUERY_at, hh]
  unfold WEIGHTS
  rw [ATT_at]
  · simp only [hs, LEN_at n hn]
    rfl
  · intro l
    rw [hs]
    exact isReal_score _ _ _ (fun d => rx _ l d) (fun a => isReal_sum _ _ fun i => (isReal_hid _ _ _ _ _ _).mul (rq a i)) fun a d => rk a d

/-- The mixed row at place `r`. -/
theorem ROWS_at (r j : Fin 128) : ROWS h x n Wq Wk Wv (ix2 r j)
    = rowMix (fun l d => x (ix3 (seat n r) l d)) (n (ix1 (seat n r))) (fun k d => Wih (ix2 k d)) (fun k i => Whh (ix2 k i))
        (fun k => bih (ix1 k)) (fun k => bhh (ix1 k)) (fun a i => Wq (ix2 a i)) (fun a d => Wk (ix2 a d)) (fun a d => Wv (ix2 a d)) j := by
  unfold ROWS
  rw [MIX_at]
  simp only [WEIGHTS_at h x n Wih Whh bih bhh Wq Wk hn rx rq rk hh, SEQ_at x n hn, QUERY_at, hh]
  rfl

/-- The mixed row put back at position `b`. -/
theorem BACK_ROWS_at (b j : Fin 128) : BACK n (ROWS h x n Wq Wk Wv) (ix2 b j)
    = rowMix (fun l d => x (ix3 b l d)) (n (ix1 b)) (fun k d => Wih (ix2 k d)) (fun k i => Whh (ix2 k i))
        (fun k => bih (ix1 k)) (fun k => bhh (ix1 k)) (fun a i => Wq (ix2 a i)) (fun a d => Wk (ix2 a d)) (fun a d => Wv (ix2 a d)) j := by
  obtain ⟨r, rfl⟩ := (place_bijective (key fun a => n (ix1 a))).2 b
  exact (BACK_at n hn _ r j).trans (ROWS_at h x n Wih Whh bih bhh Wq Wk Wv hn rx rq rk hh r j)

end Rows

end Cert.ReferenceIdeal.Value

end
-- ==== Proof.RefResults.lean ====
module

public import proofs.«01_k».proof.Proof.RefValue

/-! The reference's three results, as rows of the argument arrays. -/

@[expose] public section

set_option maxRecDepth 16384

noncomputable section

namespace Cert.ReferenceIdeal.Value

open Idealize.ShloMosaic Idealize.ShloMosaic.TcCoe Idealize.SL.Sem
open Idealize.ShloMosaic.StableHlo
open Cert.ReferenceIdeal Cert.ReferenceIdeal.Gen Cert.Row

variable (m : (ℓ : Loc nD τ sig) → Buf (Elt Ideal) ℓ) (c : Dev nD)

/-- The weights of the sequence at position `b`. -/
abbrev weightOf (b : Fin 128) : Fin 64 → EReal :=
  rowWeight (fun l d => m ((c : Thread nD τ).loc main_arg0) (ix3 b l d)) (m ((c : Thread nD τ).loc main_arg1) (ix1 b))
    (fun k d => m ((c : Thread nD τ).loc main_arg2) (ix2 k d)) (fun k i => m ((c : Thread nD τ).loc main_arg3) (ix2 k i))
    (fun k => m ((c : Thread nD τ).loc main_arg4) (ix1 k)) (fun k => m ((c : Thread nD τ).loc main_arg5) (ix1 k))
    (fun a i => m ((c : Thread nD τ).loc main_arg6) (ix2 a i)) (fun a d => m ((c : Thread nD τ).loc main_arg7) (ix2 a d))

/-- The mixed row of the sequence at position `b`. -/
abbrev mixOf (b : Fin 128) : Fin 128 → EReal :=
  rowMix (fun l d => m ((c : Thread nD τ).loc main_arg0) (ix3 b l d)) (m ((c : Thread nD τ).loc main_arg1) (ix1 b))
    (fun k d => m ((c : Thread nD τ).loc main_arg2) (ix2 k d)) (fun k i => m ((c : Thread nD τ).loc main_arg3) (ix2 k i))
    (fun k => m ((c : Thread nD τ).loc main_arg4) (ix1 k)) (fun k => m ((c : Thread nD τ).loc main_arg5) (ix1 k))
    (fun a i => m ((c : Thread nD τ).loc main_arg6) (ix2 a i)) (fun a d => m ((c : Thread nD τ).loc main_arg7) (ix2 a d))
    (fun a d => m ((c : Thread nD τ).loc main_arg8) (ix2 a d))

variable (hn : ∀ a, (m ((c : Thread nD τ).loc main_arg1) : IVec S128 32) (ix1 a) ≠ BitVec.intMin 32)
  (rx : ∀ b l d, IsReal (m ((c : Thread nD τ).loc main_arg0) (ix3 b l d)))
  (rq : ∀ a i, IsReal (m ((c : Thread nD τ).loc main_arg6) (ix2 a i))) (rk : ∀ a d, IsReal (m ((c : Thread nD τ).loc main_arg7) (ix2 a d)))

include hn rx rq rk

/-- The mixed rows in the order the arguments have. -/
theorem back_at (b j : Fin 128) :
    BACK (m ((c : Thread nD τ).loc main_arg1)) (ROWS ((STEP^[64] (entryContents preI m c)) (Proc.devRef .tc main_v19_8)) (m ((c : Thread nD τ).loc main_arg0))
      (m ((c : Thread nD τ).loc main_arg1)) (m ((c : Thread nD τ).loc main_arg6)) (m ((c : Thread nD τ).loc main_arg7)) (m ((c : Thread nD τ).loc main_arg8))) (ix2 b j)
      = mixOf m c b j :=
  BACK_ROWS_at _ _ _ (m ((c : Thread nD τ).loc main_arg2)) (m ((c : Thread nD τ).loc main_arg3)) (m ((c : Thread nD τ).loc main_arg4)) (m ((c : Thread nD τ).loc main_arg5))
    _ _ _ hn rx rq rk (fun r j => state_at m c hn 64 le_rfl r j) b j

/-- The class scores. -/
theorem final88 : out_main_v88 (STEP^[64] (entryContents preI m c))
    = ((fun j => layer (mixOf m c (j 0)) (fun k i => m ((c : Thread nD τ).loc main_arg9) (ix2 k i))
      (fun k => m ((c : Thread nD τ).loc main_arg10) (ix1 k)) (j 1)) : FVec Ideal S128x100 .f32) := by
  rw [out_main_v88_eq, iter_main_arg0, iter_main_arg1, iter_main_arg6, iter_main_arg7, iter_main_arg8, iter_main_arg9, iter_main_arg10]
  funext j
  idx_vars j
  refine (PRED_at _ _ _ _ _).trans ?_
  simp only [back_at m c hn rx rq rk]

/-- The hash codes. -/
theorem final94 : out_main_v94 (STEP^[64] (entryContents preI m c))
    = ((fun j => Ideal.tanh (layer (mixOf m c (j 0)) (fun k i => m ((c : Thread nD τ).loc main_arg11) (ix2 k i))
      (fun k => m ((c : Thread nD τ).loc main_arg12) (ix1 k)) (j 1))) : FVec Ideal S128x48 .f32) := by
  rw [out_main_v94_eq, iter_main_arg0, iter_main_arg1, iter_main_arg6, iter_main_arg7, iter_main_arg8, iter_main_arg11, iter_main_arg12]
  funext j
  idx_vars j
  refine (HASH_at _ _ _ _ _).trans ?_
  simp only [back_at m c hn rx rq rk]

/-- The weights, by falling length. -/
theorem final75 : out_main_v75 (STEP^[64] (entryContents preI m c))
    = ((fun j => weightOf m c (place (key fun x => m ((c : Thread nD τ).loc main_arg1) (ix1 x)) (j 0)) (j 1)) : FVec Ideal S128x64 .f32) := by
  rw [out_main_v75_eq, iter_main_arg0, iter_main_arg1, iter_main_arg6, iter_main_arg7]
  funext j
  idx_vars j
  refine Eq.trans ?_ (WEIGHTS_at _ _ _ (m ((c : Thread nD τ).loc main_arg2)) (m ((c : Thread nD τ).loc main_arg3)) (m ((c : Thread nD τ).loc main_arg4))
    (m ((c : Thread nD τ).loc main_arg5)) _ _ hn rx rq rk (fun r j => state_at m c hn 64 le_rfl r j) _ _)
  pointwise

end Cert.ReferenceIdeal.Value

end
-- ==== Proof.Precondition.lean ====
module

public import proofs.«01_k».proof.Pre_finite_and_negatable
public import proofs.«01_k».proof.Proof.Algebra
public import Idealize.ShloMosaic.Lib.ReduceAll

/-! What the precondition says of the argument arrays: the sequence and the two projections of the scores hold reals, and no length is the least word. -/

@[expose] public section

noncomputable section

namespace Cert.Pre_finite_and_negatable

open Idealize.ShloMosaic Cert.Row

theorem facts : Facts where
  bcast_S_S128x64x256 := by decide
  reducesTo_S128x64x256_S_d0_1_2 := by decide
  h_S_ := by decide
  bcast_S_S128x128 := by decide
  reducesTo_S128x128_S_d0_1 := by decide
  bcast_S_S128x256 := by decide
  reducesTo_S128x256_S_d0_1 := by decide
  bcast_S_S128 := by decide
  reducesTo_S128_S_d0 := by decide

/-- An extended real whose magnitude compares below infinity is a real. -/
theorem isReal_of_cmpf {a : EReal} (h : FloatOps.cmpf (F := Ideal) (φ := .f32) .olt (FloatOps.absf (F := Ideal) (φ := .f32) a) (Ideal.ofBits .f32 0x7F800000#32) = 1#1) :
    IsReal a := by
  rw [ofBits_inf] at h
  refine isReal_of_abs_lt a ?_
  by_contra hc
  have h0 : FloatOps.cmpf (F := Ideal) (φ := .f32) .olt (FloatOps.absf (F := Ideal) (φ := .f32) a) (⊤ : EReal) = BitVec.ofBool (decide (max a (-a) < ⊤)) := rfl
  rw [h0, decide_eq_false hc] at h
  exact absurd h (by decide)

variable [Facts]

/-- The precondition, read. -/
theorem read {x : FVec Ideal S128x64x256 .f32} {n : IVec S128 32} {a2 : FVec Ideal S384x256 .f32} {a3 : FVec Ideal S384x128 .f32} {a4 a5 : FVec Ideal S384 .f32}
    {Wq : FVec Ideal S128x128 .f32} {Wk a8 : FVec Ideal S128x256 .f32} {a9 : FVec Ideal S100x128 .f32} {a10 : FVec Ideal S100 .f32} {a11 : FVec Ideal S48x128 .f32}
    {a12 : FVec Ideal S48 .f32} (h : fn x n a2 a3 a4 a5 Wq Wk a8 a9 a10 a11 a12 = fun _ => 1#1) :
    (∀ i, IsReal (x i)) ∧ (∀ i, IsReal (Wq i)) ∧ (∀ i, IsReal (Wk i)) ∧ ∀ i, n i ≠ BitVec.intMin 32 := by
  haveI : Subsingleton S_.Idx := ⟨fun a b => funext fun d => d.elim0⟩
  have h0 := congrFun h (fun d => d.elim0)
  dsimp only [fn, fn_part1] at h0
  obtain ⟨h1, hn⟩ := IntOp.andi_eq_one.1 h0
  obtain ⟨h2, hk⟩ := IntOp.andi_eq_one.1 h1
  obtain ⟨hx, hq⟩ := IntOp.andi_eq_one.1 h2
  refine ⟨fun i => isReal_of_cmpf (Host.reduce_andi_all _ _ _ _ _ hx i), fun i => isReal_of_cmpf (Host.reduce_andi_all _ _ _ _ _ hq i),
    fun i => isReal_of_cmpf (Host.reduce_andi_all _ _ _ _ _ hk i), fun i hi => ?_⟩
  have h3 : IntOp.cmpi .sgt (n i) 2147483648#32 = 1#1 := Host.reduce_andi_all _ _ _ _ _ hn i
  rw [hi] at h3
  exact absurd h3 (by decide)

end Cert.Pre_finite_and_negatable

end
-- ==== Proof.lean ====
module

public import proofs.«01_k».proof.Defs
public import proofs.«01_k».proof.Proof.Gen.Kernel.Frame
public import proofs.«01_k».proof.Proof.KernelValue
public import proofs.«01_k».proof.Proof.RefResults
public import proofs.«01_k».proof.Proof.Precondition
public import Idealize.ShloMosaic.Lib.Claim

@[expose] public section

noncomputable section

namespace Cert.Proof

open Idealize.ShloMosaic Idealize.ShloMosaic.TcCoe Idealize.SL.Sem Cert.Row

attribute [local instance] Cert.Kernel.Gen.facts Cert.KernelIdeal.Gen.facts Cert.ReferenceIdeal.Gen.facts Cert.Pre_finite_and_negatable.facts

section Results

variable (x : FVec Ideal ⟨3, ![128, 64, 256]⟩ .f32) (n : IVec ⟨1, ![128]⟩ 32) (Wih : FVec Ideal ⟨2, ![384, 256]⟩ .f32) (Whh : FVec Ideal ⟨2, ![384, 128]⟩ .f32)
  (bih bhh : FVec Ideal ⟨1, ![384]⟩ .f32) (Wq : FVec Ideal ⟨2, ![128, 128]⟩ .f32) (Wk Wv : FVec Ideal ⟨2, ![128, 256]⟩ .f32)

/-- The mixed row of the sequence at position `b`, of the argument arrays. -/
def mixed (b : Fin 128) : Fin 128 → EReal :=
  rowMix (fun l d => x (ix3 b l d)) (n (ix1 b)) (fun k d => Wih (ix2 k d)) (fun k i => Whh (ix2 k i)) (fun k => bih (ix1 k)) (fun k => bhh (ix1 k))
    (fun a i => Wq (ix2 a i)) (fun a d => Wk (ix2 a d)) (fun a d => Wv (ix2 a d))

/-- The class scores, of the argument arrays. -/
def classes (Wp : FVec Ideal ⟨2, ![100, 128]⟩ .f32) (bp : FVec Ideal ⟨1, ![100]⟩ .f32) : FVec Ideal ⟨2, ![128, 100]⟩ .f32 :=
  fun j => layer (mixed x n Wih Whh bih bhh Wq Wk Wv (j 0)) (fun k i => Wp (ix2 k i)) (fun k => bp (ix1 k)) (j 1)

/-- The hash codes, of the argument arrays. -/
def codes (Wh : FVec Ideal ⟨2, ![48, 128]⟩ .f32) (bh : FVec Ideal ⟨1, ![48]⟩ .f32) : FVec Ideal ⟨2, ![128, 48]⟩ .f32 :=
  fun j => Ideal.tanh (layer (mixed x n Wih Whh bih bhh Wq Wk Wv (j 0)) (fun k i => Wh (ix2 k i)) (fun k => bh (ix1 k)) (j 1))

/-- The weights by falling length, of the argument arrays. -/
def weights : FVec Ideal ⟨2, ![128, 64]⟩ .f32 := fun j =>
  let b := place (key fun a => n (ix1 a)) (j 0)
  rowWeight (fun l d => x (ix3 b l d)) (n (ix1 b)) (fun k d => Wih (ix2 k d)) (fun k i => Whh (ix2 k i)) (fun k => bih (ix1 k)) (fun k => bhh (ix1 k))
    (fun a i => Wq (ix2 a i)) (fun a d => Wk (ix2 a d)) (j 1)

end Results

theorem frame_reference : Cert.quiescent_ReferenceIdeal := fun m g _ =>
  (θ_run Cert.ReferenceIdeal.defs _ _).mono (fun r h => ⟨fun c => (h c).2.2.2, sem_eq_zero_of_no_sems (by decide) r.2⟩) (Cert.ReferenceIdeal.Value.run m g)

theorem algebraic : Cert.algebraic_KernelIdeal_ReferenceIdeal_pre_finite_and_negatable := by
  intro m g m' g' hpre hagree
  have hK := fun c : Dev Cert.KernelIdeal.nD => Cert.Pre_finite_and_negatable.read (hpre c)
  refine ⟨_, _, _, (θ_run Cert.KernelIdeal.defs _ _).mono (fun r h c => h c) (Cert.KernelIdeal.Value.run_blocks m g), ?_⟩
  refine (θ_run Cert.ReferenceIdeal.defs _ _).mono (fun r h c => ?_) (Cert.ReferenceIdeal.Value.run m' g')
  obtain ⟨h88, h94, h75, hargs⟩ := h c
  obtain ⟨e0, e1, e2, e3, e4, e5, e6, e7, e8, e9, e10, e11, e12⟩ := hagree c
  obtain ⟨rx, rq, rk, hn⟩ := hK c
  have rx' := fun b l d => rx (ix3 b l d)
  have rq' := fun a i => rq (ix2 a i)
  have rk' := fun a d => rk (ix2 a d)
  have hn' := fun a => hn (ix1 a)
  refine ⟨h88.trans ?_, h94.trans ?_, h75.trans ?_, hargs⟩
  · refine Eq.trans ?_ (Cert.KernelIdeal.Gen.final14 m c rx' rq' rk').symm
    refine (Cert.ReferenceIdeal.Value.final88 m' c (by rw [e1]; exact hn') (by rw [e0]; exact rx') (by rw [e6]; exact rq') (by rw [e7]; exact rk')).trans ?_
    show classes (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = classes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    rw [e0, e1, e2, e3, e4, e5, e6, e7, e8, e9, e10]
  · refine Eq.trans ?_ (Cert.KernelIdeal.Gen.final15 m c rx' rq' rk').symm
    refine (Cert.ReferenceIdeal.Value.final94 m' c (by rw [e1]; exact hn') (by rw [e0]; exact rx') (by rw [e6]; exact rq') (by rw [e7]; exact rk')).trans ?_
    show codes (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = codes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
    rw [e0, e1, e2, e3, e4, e5, e6, e7, e8, e11, e12]
  · refine Eq.trans ?_ (Cert.KernelIdeal.Gen.final16 m c rx' rq' rk').symm
    refine (Cert.ReferenceIdeal.Value.final75 m' c (by rw [e1]; exact hn') (by rw [e0]; exact rx') (by rw [e6]; exact rq') (by rw [e7]; exact rk')).trans ?_
    show weights (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      = weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    rw [e0, e1, e2, e3, e4, e5, e6, e7]

theorem claim : Cert.Claim :=
  ⟨Cert.Kernel.Gen.facts, Cert.KernelIdeal.Gen.facts, Cert.ReferenceIdeal.Gen.facts, Cert.Pre_finite_and_negatable.facts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
